-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S16x128x32x64 : S_.BroadcastsInDim S16x128x32x64 (![] : Fin 0 → Fin S16x128x32x64.rank)

variable [Facts]

def fn {F : FTy → Type} [FloatOps F] (main_arg0 : FVec F S2x128x512 .f32) (main_arg1 : FVec F S512x256 .f32) (main_arg2 : FVec F S16x128x32x64 .f32) (main_arg3 : FVec F S16x128x32x64 .f32) (main_arg4 : FVec F S256x512 .f32) : IVec S2x128x512 1 × IVec S512x256 1 × IVec S16x128x32x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S16x128x32x64 .f32 := Host.absf main_arg2
  let main_cst_1 : FVec F S_ .f32 := constant S_ .f32 0x7F800000#32
  let main_v7 : FVec F S16x128x32x64 .f32 := broadcastInDim S16x128x32x64 ![] bcast_S_S16x128x32x64 main_cst_1
  let main_v8 : IVec S16x128x32x64 1 := cmpf .olt main_v6 main_v7
  (main_v2, main_v5, main_v8)
-- ==== Pre_scores_finite_ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S_ : Shape := ⟨0, ![]⟩

class Facts : Prop where
  bcast_S_S16x128x512 : S_.BroadcastsInDim S16x128x512 (![] : Fin 0 → Fin S16x128x512.rank)
  bcast_S_S512x2048 : S_.BroadcastsInDim S512x2048 (![] : Fin 0 → Fin S512x2048.rank)
  bcast_S_S16x128x32x64 : S_.BroadcastsInDim S16x128x32x64 (![] : Fin 0 → Fin S16x128x32x64.rank)

variable [Facts]

def fn {F : FTy → Type} [FloatOps F] (main_arg0 : FVec F S16x128x512 .f32) (main_arg1 : FVec F S512x2048 .f32) (main_arg2 : FVec F S16x128x32x64 .f32) (main_arg3 : FVec F S16x128x32x64 .f32) (main_arg4 : FVec F S2048x512 .f32) : IVec S16x128x512 1 × IVec S512x2048 1 × IVec S16x128x32x64 1 :=
  let main_v0 : FVec F S16x128x512 .f32 := Host.absf main_arg0
  let main_cst : FVec F S_ .f32 := constant S_ .f32 0x7F800000#32
  let main_v1 : FVec F S16x128x512 .f32 := broadcastInDim S16x128x512 ![] bcast_S_S16x128x512 main_cst
  let main_v2 : IVec S16x128x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S16x128x32x64 .f32 := Host.absf main_arg2
  let main_cst_1 : FVec F S_ .f32 := constant S_ .f32 0x7F800000#32
  let main_v7 : FVec F S16x128x32x64 .f32 := broadcastInDim S16x128x32x64 ![] bcast_S_S16x128x32x64 main_cst_1
  let main_v8 : IVec S16x128x32x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩
abbrev S2x128x32x64 : Shape := ⟨4, ![2, 128, 32, 64]⟩
abbrev S256x2048 : Shape := ⟨2, ![256, 2048]⟩
abbrev S4x512x256 : Shape := ⟨3, ![4, 512, 256]⟩
abbrev S4x256x512 : Shape := ⟨3, ![4, 256, 512]⟩
abbrev S1x512x256 : Shape := ⟨3, ![1, 512, 256]⟩
abbrev S1x256x512 : Shape := ⟨3, ![1, 256, 512]⟩
abbrev S8x256x256 : Shape := ⟨3, ![8, 256, 256]⟩
abbrev S3 : Shape := ⟨1, ![3]⟩
abbrev S1 : Shape := ⟨1, ![1]⟩
abbrev S256x256 : Shape := ⟨2, ![256, 256]⟩
abbrev S1x256x256 : Shape := ⟨3, ![1, 256, 256]⟩
abbrev S256x64 : Shape := ⟨2, ![256, 64]⟩
abbrev S256 : Shape := ⟨1, ![256]⟩
abbrev S256x1 : Shape := ⟨2, ![256, 1]⟩

abbrev nBuf : Space → Nat
  | .hbm => 36
  | .vmem => 14
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S16x128x32x64, .f32⟩
  | .hbm, ⟨3, _⟩ => ⟨S16x128x32x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x32x64, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x128x32x64, .f32⟩
  | .hbm, ⟨31, _⟩ => ⟨S256x2048, .f32⟩
  | .hbm, ⟨32, _⟩ => ⟨S256x2048, .bf16⟩
  | .hbm, ⟨33, _⟩ => ⟨S256x2048, .f32⟩
  | .hbm, ⟨34, _⟩ => ⟨S256x2048, .bf16⟩
  | .hbm, ⟨35, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x2048, .bf16⟩
  | .local _ .vmem, ⟨3, _⟩ => ⟨S256x2048, .bf16⟩
  | .local _ .vmem, ⟨4, _⟩ => ⟨S256x512, .f32⟩
  | .local _ .vmem, ⟨5, _⟩ => ⟨S2x128x512, .f32⟩
  | .local _ .vmem, ⟨6, _⟩ => ⟨S4x512x256, .bf16⟩
  | .local _ .vmem, ⟨7, _⟩ => ⟨S4x256x512, .bf16⟩
  | .local _ .vmem, ⟨8, _⟩ => ⟨S4x512x256, .bf16⟩
  | .local _ .vmem, ⟨9, _⟩ => ⟨S4x256x512, .bf16⟩
  | .local _ .vmem, ⟨10, _⟩ => ⟨S1x512x256, .bf16⟩
  | .local _ .vmem, ⟨11, _⟩ => ⟨S1x256x512, .bf16⟩
  | .local _ .vmem, ⟨12, _⟩ => ⟨S8x256x256, .bf16⟩
  | .local _ .vmem, ⟨13, _⟩ => ⟨S8x256x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_v12 : Ref sig .tc := ⟨.hbm, 26, rfl⟩
abbrev main_c_9 : Ref sig .tc := ⟨.hbm, 27, rfl⟩
abbrev main_c_10 : Ref sig .tc := ⟨.hbm, 28, rfl⟩
abbrev main_c_11 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7 : BitVec 32 := 1#32
  let v11 : BitVec 32 := Scalar.muli v7 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_9 : BitVec 32 := 1#32
  let v13 : BitVec 32 := Scalar.muli v4 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_49 : BitVec 32 := 1#32
  let v93 : BitVec 32 := Scalar.muli v4 c1_i32_49
  let v94 : BitVec 32 := Scalar.addi c0_i32_50 v93
  v94.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_59 : BitVec 32 := 1#32
  let v103 : BitVec 32 := Scalar.muli v7 c1_i32_59
  let v104 : BitVec 32 := Scalar.addi c0_i32_60 v103
  v104.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_69 : BitVec 32 := 1#32
  let v113 : BitVec 32 := Scalar.muli v4 c1_i32_69
  let v114 : BitVec 32 := Scalar.addi c0_i32_70 v113
  v114.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_79 : BitVec 32 := 1#32
  let v123 : BitVec 32 := Scalar.muli v7 c1_i32_79
  let v124 : BitVec 32 := Scalar.addi c0_i32_80 v123
  v124.toNat
def k0_dev8 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_89 : BitVec 32 := 1#32
  let v133 : BitVec 32 := Scalar.muli v9 c1_i32_89
  let v134 : BitVec 32 := Scalar.addi c0_i32_90 v133
  v134.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_99 : BitVec 32 := 1#32
  let v143 : BitVec 32 := Scalar.muli v9 c1_i32_99
  let v144 : BitVec 32 := Scalar.addi c0_i32_100 v143
  v144.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v229 : Index := Scalar.indexCast v2
  let c0_158 : Index := 0#32
  let c0_159 : Index := 0#32
  ![v229.toNat, 0, 0]
def k0_dev10 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_188 : BitVec 32 := 1#32
  let v295 : BitVec 32 := Scalar.muli v4 c1_i32_188
  let v296 : BitVec 32 := Scalar.addi c0_i32_189 v295
  v296.toNat
def k0_dev11 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_208 : BitVec 32 := 1#32
  let v313 : BitVec 32 := Scalar.muli v7 c1_i32_208
  let v314 : BitVec 32 := Scalar.addi c0_i32_209 v313
  v314.toNat
def k0_dev12 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_228 : BitVec 32 := 1#32
  let v331 : BitVec 32 := Scalar.muli v4 c1_i32_228
  let v332 : BitVec 32 := Scalar.addi c0_i32_229 v331
  v332.toNat
def k0_dev13 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_248 : BitVec 32 := 1#32
  let v349 : BitVec 32 := Scalar.muli v7 c1_i32_248
  let v350 : BitVec 32 := Scalar.addi c0_i32_249 v349
  v350.toNat
def k0_off2 (d0 : Dev nD) (c1_i32_255 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_254 : BitVec 32 := 8#32
  let v359 : BitVec 32 := Scalar.addi v2 c8_i32_254
  let v360 : BitVec 32 := Scalar.subi v359 c1_i32_255
  let c8_i32_256 : BitVec 32 := 8#32
  let v361 : BitVec 32 := Scalar.remsi v360 c8_i32_256
  let v370 : Index := Scalar.indexCast v361
  let c0_265 : Index := 0#32
  let c0_266 : Index := 0#32
  ![v370.toNat, 0, 0]
def k0_off3 (d0 : Dev nD) (c1_i32_282 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v428 : BitVec 32 := Scalar.addi v2 c1_i32_282
  let c8_i32_283 : BitVec 32 := 8#32
  let v429 : BitVec 32 := Scalar.remsi v428 c8_i32_283
  let v438 : Index := Scalar.indexCast v429
  let c0_292 : Index := 0#32
  let c0_293 : Index := 0#32
  ![v438.toNat, 0, 0]
def k0_dev14 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_323 : BitVec 32 := 1#32
  let v504 : BitVec 32 := Scalar.muli v4 c1_i32_323
  let v505 : BitVec 32 := Scalar.addi c0_i32_324 v504
  v505.toNat
def k0_dev15 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_343 : BitVec 32 := 1#32
  let v522 : BitVec 32 := Scalar.muli v7 c1_i32_343
  let v523 : BitVec 32 := Scalar.addi c0_i32_344 v522
  v523.toNat
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_363 : BitVec 32 := 1#32
  let v540 : BitVec 32 := Scalar.muli v4 c1_i32_363
  let v541 : BitVec 32 := Scalar.addi c0_i32_364 v540
  v541.toNat
def k0_dev17 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_383 : BitVec 32 := 1#32
  let v558 : BitVec 32 := Scalar.muli v7 c1_i32_383
  let v559 : BitVec 32 := Scalar.addi c0_i32_384 v558
  v559.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S16x128x2048 : Shape := ⟨3, ![16, 128, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S16x32x128x128 : Shape := ⟨4, ![16, 32, 128, 128]⟩
abbrev S1x1x128x128 : Shape := ⟨4, ![1, 1, 128, 128]⟩
abbrev S16x32x128 : Shape := ⟨3, ![16, 32, 128]⟩
abbrev S16x32x128x1 : Shape := ⟨4, ![16, 32, 128, 1]⟩
abbrev S1x1x128x1 : Shape := ⟨4, ![1, 1, 128, 1]⟩
abbrev S16x32x64x128 : Shape := ⟨4, ![16, 32, 64, 128]⟩

abbrev nBuf : Space → Nat
  | .hbm => 67
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S512x2048, .f32⟩
  | .hbm, ⟨2, _⟩ => ⟨S16x128x32x64, .f32⟩
  | .hbm, ⟨3, _⟩ => ⟨S16x128x32x64, .f32⟩
  | .hbm, ⟨4, _⟩ => ⟨S2048x512, .f32⟩
  | .hbm, ⟨5, _⟩ => ⟨S16x128x2048, .f32⟩
  | .hbm, ⟨6, _⟩ => ⟨S16x128x32x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S1x128, .i32⟩
  | .hbm, ⟨20, _⟩ => ⟨S1x128, .i1⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S16x32x128x128, .f32⟩
  | .hbm, ⟨29, _⟩ => ⟨S_, .f32⟩
  | .hbm, ⟨30, _⟩ => ⟨S16x32x128x128, .f32⟩
  | .hbm, ⟨31, _⟩ => ⟨S16x32x128x128, .f32⟩
  | .hbm, ⟨32, _⟩ => ⟨S1x1x128x128, .i1⟩
  | .hbm, ⟨33, _⟩ => ⟨S_, .f32⟩
  | .hbm, ⟨34, _⟩ => ⟨S_, .f32⟩
  | .hbm, ⟨35, _⟩ => ⟨S16x32x128x128, .i1⟩
  | .hbm, ⟨36, _⟩ => ⟨S16x32x128x128, .f32⟩
  | .hbm, ⟨37, _⟩ => ⟨S16x32x128x128, .f32⟩
  | .hbm, ⟨38, _⟩ => ⟨S_, .f32⟩
  | .hbm, ⟨39, _⟩ => ⟨S16x32x128, .f32⟩
  | .hbm, ⟨40, _⟩ => ⟨S16x32x128x1, .f32⟩
  | .hbm, ⟨41, _⟩ => ⟨S16x32x128x128, .f32⟩
  | .hbm, ⟨42, _⟩ => ⟨S16x32x128x128, .f32⟩
  | .hbm, ⟨43, _⟩ => ⟨S16x32x128x128, .f32⟩
  | .hbm, ⟨44, _⟩ => ⟨S_, .i1⟩
  | .hbm, ⟨45, _⟩ => ⟨S128, .i1⟩
  | .hbm, ⟨46, _⟩ => ⟨S1x1x128x1, .i1⟩
  | .hbm, ⟨47, _⟩ => ⟨S_, .f32⟩
  | .hbm, ⟨48, _⟩ => ⟨S16x32x128, .f32⟩
  | .hbm, ⟨49, _⟩ => ⟨S16x32x128x1, .f32⟩
  | .hbm, ⟨50, _⟩ => ⟨S_, .f32⟩
  | .hbm, ⟨51, _⟩ => ⟨S_, .f32⟩
  | .hbm, ⟨52, _⟩ => ⟨S16x32x128x1, .i1⟩
  | .hbm, ⟨53, _⟩ => ⟨S16x32x128x1, .f32⟩
  | .hbm, ⟨54, _⟩ => ⟨S16x32x128x1, .f32⟩
  | .hbm, ⟨55, _⟩ => ⟨S16x32x128x128, .f32⟩
  | .hbm, ⟨56, _⟩ => ⟨S16x32x128x128, .f32⟩
  | .hbm, ⟨57, _⟩ => ⟨S1x1x128x1, .i1⟩
  | .hbm, ⟨58, _⟩ => ⟨S_, .f32⟩
  | .hbm, ⟨59, _⟩ => ⟨S_, .f32⟩
  | .hbm, ⟨60, _⟩ => ⟨S16x32x128x128, .i1⟩
  | .hbm, ⟨61, _⟩ => ⟨S16x32x128x128, .f32⟩
  | .hbm, ⟨62, _⟩ => ⟨S16x32x128x128, .f32⟩
  | .hbm, ⟨63, _⟩ => ⟨S16x32x64x128, .f32⟩
  | .hbm, ⟨64, _⟩ => ⟨S16x128x32x64, .f32⟩
  | .hbm, ⟨65, _⟩ => ⟨S16x128x2048, .f32⟩
  | .hbm, ⟨66, _⟩ => ⟨S16x128x512, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Slots.lean ====
/-
  Slots of a scratch buffer. A slot is a rectangle of the buffer with its leading axis of size one dropped; it is held
  with a share, together with the value that reading it gives. This file has the rules that load from a slot and store
  into one, that cut a share in two and join it again, and that cut a whole buffer of n slots into its slots and back.
-/
module

public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.Tactic
public import Idealize.ShloMosaic.Lib.Pipeline.RegionTalk

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's copy and the copy of this kernel's own signals and transfers. -/
abbrev UU : Type := UR sig nD τ × URounds (GSem nD τ sig) (Fin 3)

local notation "𝕄" => MT nD τ sig Unit (Elt F) ℕ UU ℕ

/-- No procedure of the program is recursive. -/
abbrev 𝒱₀ : Variants := Variants.none

variable {s : Shape} {e : EltTy}

/-- Device c holds the share q of the view M, and reading M gives w. -/
def slotP (M : Memref sig .tc .vmem s e) (c : Dev nD) (q : PosShare TreeShare) (w : s.Idx → Elt F e) : sProp 𝕄 :=
  iprop(∃ f : Buf (Elt F) (M.view.loc (c : Thread nD τ)), ⌜M.view.read (Elt F) f = w⌝ ∗ (M.view.loc (c : Thread nD τ) ↦[M.view.set]{q} f))

/-- Device c holds the view M whole, at some contents. -/
def slotAny (M : Memref sig .tc .vmem s e) (c : Dev nD) : sProp 𝕄 :=
  iprop(∃ f : Buf (Elt F) (M.view.loc (c : Thread nD τ)), (M.view.loc (c : Thread nD τ) ↦[M.view.set]{fullShare} f))

instance slotP_storable (M : Memref sig .tc .vmem s e) (c : Dev nD) (q : PosShare TreeShare) (w : s.Idx → Elt F e) :
    BI.Storable (upEmb : UEmb _ 𝕄) (slotP M c q w) := by
  unfold slotP; infer_instance
instance slotAny_storable (M : Memref sig .tc .vmem s e) (c : Dev nD) :
    BI.Storable (upEmb : UEmb _ 𝕄) (slotAny (F := F) M c) := by
  unfold slotAny; infer_instance

/-- Forgetting the value. -/
theorem slotP_any (M : Memref sig .tc .vmem s e) (c : Dev nD) (w : s.Idx → Elt F e) :
    (slotP M c fullShare w : sProp 𝕄) ⊢ slotAny M c := by
  unfold slotP slotAny
  iintro ⟨%f, -, H⟩; iexists f; iexact H

/-- A share cut in two. -/
theorem slotP_split (M : Memref sig .tc .vmem s e) (c : Dev nD) (q : PosShare TreeShare) (w : s.Idx → Elt F e) :
    (slotP M c q w : sProp 𝕄) ⊢ iprop(slotP M c q.left w ∗ slotP M c q.right w) := by
  unfold slotP
  iintro ⟨%f, %hf, H⟩
  ihave H2 := (pointsTo_share (PosShare.mem_left_op_right q)).1 $$ H
  icases H2 with ⟨H1, H2⟩
  isplitl [H1]
  · iexists f; isplitr; · ipureintro; exact hf
    iexact H1
  · iexists f; isplitr; · ipureintro; exact hf
    iexact H2

/-- Two shares joined. -/
theorem slotP_join (M : Memref sig .tc .vmem s e) (c : Dev nD) (q : PosShare TreeShare) (w w' : s.Idx → Elt F e) :
    iprop(slotP M c q.left w ∗ slotP M c q.right w') ⊢ (slotP M c q w : sProp 𝕄) := by
  unfold slotP
  iintro ⟨⟨%f, %hf, H1⟩, ⟨%g, %hg, H2⟩⟩
  ihave %hfg := pointsTo_agree $$ [H1 H2]
  · isplitl [H1] <;> iassumption
  iexists f
  isplitr; · ipureintro; exact hf
  iapply (pointsTo_share (PosShare.mem_left_op_right q)).2
  isplitl [H1]; · iexact H1
  rw [pointsTo_congr (fun i hi => (hfg i (Finset.mem_inter.mpr ⟨hi, hi⟩)).1)]
  iexact H2

/-- A load from a slot gives the slot's value, the leading axis of size one put back. -/
theorem load_slot (M : Memref sig .tc .vmem s e) (r : Rect s) (hr : ∀ a, r.stride a = 1) (s' : Shape) (h : r.shape.Squeezes s')
    (c : Dev nD) (q : PosShare TreeShare) (w : s'.Idx → Elt F e) {hl : M.view.LoadsAt r.toLoadRect}
    {α : Type} {Q : α → sProp 𝕄} {k : (r.shape.Idx → Elt F e) → Prog (TpuEff nD τ sig (Elt F) Λ₀ .tc) α} :
    slotP ((M.slice r hr).squeeze s' h) c q w
      ⊢ iprop((slotP ((M.slice r hr).squeeze s' h) c q w
            -∗ wp frame (wpE (defs₀ (F := F)) 𝒱₀ (c : Thread nD τ) none) Set.univ (k (fun i => w (Shape.reshapeEquiv h.numel_eq.symm i))) Q)
          -∗ wp frame (wpE (defs₀ (F := F)) 𝒱₀ (c : Thread nD τ) none) Set.univ (.op (.load M r.toLoadRect hl) k) Q) := by
  unfold slotP
  iintro ⟨%f, %hf, H⟩ Hk
  iapply (wp_load_rect 𝒱₀ (c : Thread nD τ) none Set.univ (m := M) (r := r) (f := f) (q := q)
    (S := ((M.slice r hr).squeeze s' h).view.set) (by rw [View.set_reshape])) $$ H
  iintro H
  have hw : (M.access r).read (Elt F) f = fun i => w (Shape.reshapeEquiv h.numel_eq.symm i) := by
    subst hf
    funext i
    show _ = (M.access r).read (Elt F) f (Shape.reshapeEquiv h.numel_eq (Shape.reshapeEquiv h.numel_eq.symm i))
    rw [Shape.reshapeEquiv_reshapeEquiv, Shape.reshapeEquiv_self]
  rw [hw]
  iapply Hk
  iexists f
  isplitr; · ipureintro; exact hf
  iexact H

/-- A load from a slot not yet written: its value is not used. -/
theorem load_any (M : Memref sig .tc .vmem s e) (r : Rect s) (hr : ∀ a, r.stride a = 1) (s' : Shape) (h : r.shape.Squeezes s')
    (c : Dev nD) {hl : M.view.LoadsAt r.toLoadRect}
    {α : Type} {Q : α → sProp 𝕄} {k : (r.shape.Idx → Elt F e) → Prog (TpuEff nD τ sig (Elt F) Λ₀ .tc) α} :
    slotAny ((M.slice r hr).squeeze s' h) c
      ⊢ iprop((∀ v, slotAny ((M.slice r hr).squeeze s' h) c
            -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  unfold slotAny
  iintro ⟨%f, H⟩ Hk
  iapply (wp_load_rect 𝒱₀ (c : Thread nD τ) none Set.univ (m := M) (r := r) (f := f) (q := fullShare)
    (S := ((M.slice r hr).squeeze s' h).view.set) (by rw [View.set_reshape])) $$ H
  iintro H
  iapply Hk
  iexists f
  iexact H

/-- A store into a slot. -/
theorem store_slot (M : Memref sig .tc .vmem s e) (r : Rect s) (hr : ∀ a, r.stride a = 1) (s' : Shape) (h : r.shape.Squeezes s')
    (c : Dev nD) (v : r.shape.Idx → Elt F e) (w : s'.Idx → Elt F e) (hv : ∀ i, v (Shape.reshapeEquiv h.numel_eq i) = w i)
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    slotAny ((M.slice r hr).squeeze s' h) c
      ⊢ iprop((slotP ((M.slice r hr).squeeze s' h) c fullShare w
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r v Finset.univ hx hm) k) Q) := by
  unfold slotAny slotP
  iintro ⟨%f, H⟩ Hk
  iapply (wp_store 𝒱₀ (c : Thread nD τ) none Set.univ (m := M) (r := r) (f := f)
    (S := ((M.slice r hr).squeeze s' h).view.set) (by rw [View.set_reshape, View.setOn_univ])) $$ H
  iintro H
  iapply Hk
  iexists _
  isplitr
  rotate_left
  · iexact H
  · ipureintro
    funext i
    show (M.access r).read (Elt F) _ (Shape.reshapeEquiv h.numel_eq i) = w i
    rw [View.read_write_univ, hv]

/-! ## A whole buffer of n slots -/

section Whole

variable {n a b : ℕ}

/-- Slot j of a buffer of n slots of size a × b. -/
abbrev slotRect (j : ℕ) (hj : j < n) : Rect (⟨3, ![n, a, b]⟩ : Shape) :=
  Rect.unit (s := ⟨3, ![n, a, b]⟩) ![j, 0, 0] (⟨3, ![1, a, b]⟩ : Shape).size (fun x => by
    match x with
    | ⟨0, _⟩ => exact hj
    | ⟨1, _⟩ => exact (Nat.zero_add a).le
    | ⟨2, _⟩ => exact (Nat.zero_add b).le)

theorem squeezes_slot : (⟨3, ![1, a, b]⟩ : Shape).Squeezes ⟨2, ![a, b]⟩ := by
  show Shape.dropsOnes [b, a, 1] [b, a] = true
  simp [Shape.dropsOnes]

/-- The slot as a view: its leading axis dropped. -/
abbrev slot (M : Memref sig .tc .vmem (⟨3, ![n, a, b]⟩ : Shape) e) (j : ℕ) (hj : j < n) : Memref sig .tc .vmem (⟨2, ![a, b]⟩ : Shape) e :=
  (M.slice (slotRect j hj) (fun _ => rfl)).squeeze ⟨2, ![a, b]⟩ squeezes_slot

theorem mem_slotRect (j : ℕ) (hj : j < n) (i : (⟨3, ![n, a, b]⟩ : Shape).Idx) : i ∈ (slotRect (a := a) (b := b) j hj).set ↔ (i 0).val = j := by
  rw [Rect.mem_set_unit]
  constructor
  · intro h
    have := h 0
    change j ≤ (i 0).val ∧ (i 0).val < j + 1 at this
    omega
  · intro h x
    match x with
    | ⟨0, _⟩ => change j ≤ (i 0).val ∧ (i 0).val < j + 1; omega
    | ⟨1, _⟩ => change 0 ≤ (i 1).val ∧ (i 1).val < 0 + a; have : (i 1).val < a := (i 1).isLt; omega
    | ⟨2, _⟩ => change 0 ≤ (i 2).val ∧ (i 2).val < 0 + b; have : (i 2).val < b := (i 2).isLt; omega

theorem slot_set (M : Memref sig .tc .vmem (⟨3, ![n, a, b]⟩ : Shape) e) (j : ℕ) (hj : j < n) :
    (slot M j hj).view.set = (slotRect (a := a) (b := b) j hj).set.map M.view.emb := by
  rw [View.set_reshape]; exact View.set_slice _ _

theorem slot_disjoint (M : Memref sig .tc .vmem (⟨3, ![n, a, b]⟩ : Shape) e) (j j' : Fin n) (h : j ≠ j') :
    Disjoint (slot M j.val j.isLt).view.set (slot M j'.val j'.isLt).view.set := by
  rw [slot_set, slot_set, Finset.disjoint_map]
  refine Finset.disjoint_left.mpr fun i hi hi' => h (Fin.ext ?_)
  rw [← (mem_slotRect _ _ _).mp hi, (mem_slotRect _ _ _).mp hi']

theorem slot_cover (M : Memref sig .tc .vmem (⟨3, ![n, a, b]⟩ : Shape) e) :
    (Finset.univ : Finset (Fin n)).biUnion (fun j => (slot M j.val j.isLt).view.set) = M.view.set := by
  ext i
  rw [Finset.mem_biUnion]
  constructor
  · rintro ⟨j, -, hj⟩
    rw [slot_set] at hj
    obtain ⟨x, -, hx⟩ := Finset.mem_map.mp hj
    rw [← hx]; exact View.emb_mem_set _ x
  · intro hi
    obtain ⟨x, -, hx⟩ := Finset.mem_map.mp hi
    refine ⟨x 0, Finset.mem_univ _, ?_⟩
    rw [slot_set, ← hx]
    exact Finset.mem_map_of_mem _ ((mem_slotRect _ _ _).mpr rfl)

/-- A buffer held at known contents is held slot by slot; -/
theorem slots_of_pts (M : Memref sig .tc .vmem (⟨3, ![n, a, b]⟩ : Shape) e) (c : Dev nD) (f : Buf (Elt F) (M.view.loc (c : Thread nD τ))) :
    (M.view.loc (c : Thread nD τ) ↦[M.view.set]{fullShare} f : sProp 𝕄)
      ⊢ bigSep Finset.univ (fun j : Fin n => slotAny (slot M j.val j.isLt) c) := by
  have hs := pointsTo_biUnion (Ix := Unit) (Name := ℕ) (U := UU) (Lvl := ℕ) (ℓ := M.view.loc (c : Thread nD τ)) (q := fullShare) (f := f)
    Finset.univ (fun j : Fin n => (slot M j.val j.isLt).view.set) (fun j _ j' _ h => slot_disjoint M j j' h)
  rw [slot_cover] at hs
  have hj : ∀ j : Fin n, (M.view.loc (c : Thread nD τ) ↦[(slot M j.val j.isLt).view.set]{fullShare} f : sProp 𝕄) ⊢ slotAny (slot M j.val j.isLt) c := by
    intro j
    unfold slotAny
    iintro H
    iexists f
    iexact H
  exact (Entails.of_eq hs).trans (bigSep_mono fun j _ => hj j)

/-- and so is one held at some contents. -/
theorem slots_of_any (M : Memref sig .tc .vmem (⟨3, ![n, a, b]⟩ : Shape) e) (c : Dev nD) :
    (slotAny M c : sProp 𝕄) ⊢ bigSep Finset.univ (fun j : Fin n => slotAny (slot M j.val j.isLt) c) :=
  exists_elim fun f => slots_of_pts M c f

/-- A buffer held slot by slot, each at some contents, is held at some contents. -/
theorem any_of_slots (M : Memref sig .tc .vmem (⟨3, ![n, a, b]⟩ : Shape) e) (c : Dev nD) (f₀ : Buf (Elt F) (M.view.loc (c : Thread nD τ))) :
    bigSep Finset.univ (fun j : Fin n => slotAny (slot M j.val j.isLt) c) ⊢ (slotAny M c : sProp 𝕄) := by
  have : Nonempty (Buf (Elt F) (M.view.loc (c : Thread nD τ))) := ⟨f₀⟩
  unfold slotAny
  refine (bigSep_exists_pi Finset.univ (fun (j : Fin n) (f : Buf (Elt F) (M.view.loc (c : Thread nD τ))) =>
    (M.view.loc (c : Thread nD τ) ↦[(slot M j.val j.isLt).view.set]{fullShare} f : sProp 𝕄))).trans ?_
  iintro ⟨%fs, H⟩
  ihave H := (pointsTo_biUnion_join Finset.univ (fun j : Fin n => (slot M j.val j.isLt).view.set) fs f₀ (fun j _ j' _ h => slot_disjoint M j j' h)) $$ H
  rw [slot_cover]
  icases H with ⟨%g, -, H⟩
  iexists g; iexact H

/-- A load at an offset known to be slot j's, the slots held as a family at the values ws. -/
theorem load_family (M : Memref sig .tc .vmem (⟨3, ![n, a, b]⟩ : Shape) e) (c : Dev nD) (q : PosShare TreeShare)
    (ws : Fin n → (⟨2, ![a, b]⟩ : Shape).Idx → Elt F e) (j : Fin n) (off : Fin 3 → ℕ) (hoff : off = ![j.val, 0, 0])
    (inb : ∀ x, off x + (⟨3, ![1, a, b]⟩ : Shape).size x ≤ (⟨3, ![n, a, b]⟩ : Shape).size x)
    {hl : M.view.LoadsAt (Rect.unit (s := ⟨3, ![n, a, b]⟩) off (⟨3, ![1, a, b]⟩ : Shape).size inb).toLoadRect}
    {α : Type} {Q : α → sProp 𝕄} {k : ((⟨3, ![1, a, b]⟩ : Shape).Idx → Elt F e) → Prog (TpuEff nD τ sig (Elt F) Λ₀ .tc) α} :
    bigSep Finset.univ (fun j : Fin n => slotP (slot M j.val j.isLt) c q (ws j))
      ⊢ iprop((bigSep Finset.univ (fun j : Fin n => slotP (slot M j.val j.isLt) c q (ws j))
            -∗ wp frame (wpE (defs₀ (F := F)) 𝒱₀ (c : Thread nD τ) none) Set.univ (k (fun i => ws j (Shape.reshapeEquiv squeezes_slot.numel_eq.symm i))) Q)
          -∗ wp frame (wpE (defs₀ (F := F)) 𝒱₀ (c : Thread nD τ) none) Set.univ
              (.op (.load M (Rect.unit (s := ⟨3, ![n, a, b]⟩) off (⟨3, ![1, a, b]⟩ : Shape).size inb).toLoadRect hl) k) Q) := by
  subst hoff
  rw [show bigSep Finset.univ (fun j : Fin n => slotP (F := F) (slot M j.val j.isLt) c q (ws j))
    = iprop(slotP (slot M j.val j.isLt) c q (ws j) ∗ bigSep (Finset.univ.erase j) (fun j : Fin n => slotP (slot M j.val j.isLt) c q (ws j)))
    from bigSep_erase (Finset.mem_univ j)]
  iintro ⟨Hj, Hr⟩ Hk
  iapply (load_slot M (slotRect j.val j.isLt) (fun _ => rfl) ⟨2, ![a, b]⟩ squeezes_slot c q (ws j)) $$ Hj
  iintro Hj
  iapply Hk
  isplitl [Hj]; · iexact Hj
  iexact Hr

end Whole

/-! ## A view whole -/

theorem read_full (M : Memref sig .tc .vmem s e) (inb : ∀ a, (fun _ => 0 : Fin s.rank → ℕ) a + s.size a ≤ s.size a)
    (f : Buf (Elt F) (M.view.loc ((0 : Dev nD) : Thread nD τ))) :
    (M.access (Rect.unit (fun _ => 0) s.size inb)).read (Elt F) f = M.view.read (Elt F) f := by
  funext x
  show (M.view.read (Elt F) f) ((Rect.whole s).emb x) = _
  rw [Rect.emb_whole_apply]

/-- A load of a whole view. -/
theorem load_whole (M : Memref sig .tc .vmem s e) (c : Dev nD) (q : PosShare TreeShare) (w : s.Idx → Elt F e)
    (off : Fin s.rank → ℕ) (hz : off = fun _ => 0) (inb : ∀ a, off a + s.size a ≤ s.size a)
    {hl : M.view.LoadsAt (Rect.unit off s.size inb).toLoadRect}
    {α : Type} {Q : α → sProp 𝕄} {k : (s.Idx → Elt F e) → Prog (TpuEff nD τ sig (Elt F) Λ₀ .tc) α} :
    slotP M c q w
      ⊢ iprop((slotP M c q w -∗ wp frame (wpE (defs₀ (F := F)) 𝒱₀ (c : Thread nD τ) none) Set.univ (k w) Q)
          -∗ wp frame (wpE (defs₀ (F := F)) 𝒱₀ (c : Thread nD τ) none) Set.univ (.op (.load M (Rect.unit off s.size inb).toLoadRect hl) k) Q) := by
  subst hz
  unfold slotP
  iintro ⟨%f, %hf, H⟩ Hk
  iapply (wp_load_rect 𝒱₀ (c : Thread nD τ) none Set.univ (m := M) (r := Rect.unit (fun _ => 0) s.size inb) (f := f) (q := q)
    (S := M.view.set) (by rw [View.set_slice]; exact View.setOn_subset_set _ _)) $$ H
  iintro H
  have hw : (M.access (Rect.unit (fun _ => 0) s.size inb)).read (Elt F) f = w := (read_full M inb f).trans hf
  rw [hw]
  iapply Hk
  iexists f
  isplitr; · ipureintro; exact hf
  iexact H

/-- A load of a whole view whose value is not used. -/
theorem load_whole_any (M : Memref sig .tc .vmem s e) (c : Dev nD)
    (off : Fin s.rank → ℕ) (inb : ∀ a, off a + s.size a ≤ s.size a)
    {hl : M.view.LoadsAt (Rect.unit off s.size inb).toLoadRect}
    {α : Type} {Q : α → sProp 𝕄} {k : (s.Idx → Elt F e) → Prog (TpuEff nD τ sig (Elt F) Λ₀ .tc) α} :
    slotAny M c
      ⊢ iprop((∀ v, slotAny M c -∗ wp frame (wpE (defs₀ (F := F)) 𝒱₀ (c : Thread nD τ) none) Set.univ (k v) Q)
          -∗ wp frame (wpE (defs₀ (F := F)) 𝒱₀ (c : Thread nD τ) none) Set.univ (.op (.load M (Rect.unit off s.size inb).toLoadRect hl) k) Q) := by
  unfold slotAny
  iintro ⟨%f, H⟩ Hk
  iapply (wp_load_rect 𝒱₀ (c : Thread nD τ) none Set.univ (m := M) (r := Rect.unit off s.size inb) (f := f) (q := fullShare)
    (S := M.view.set) (by rw [View.set_slice]; exact View.setOn_subset_set _ _)) $$ H
  iintro H
  iapply Hk
  iexists f
  iexact H

/-- A store over a whole view. -/
theorem store_whole (M : Memref sig .tc .vmem s e) (c : Dev nD) (w : s.Idx → Elt F e)
    (off : Fin s.rank → ℕ) (hz : off = fun _ => 0) (inb : ∀ a, off a + s.size a ≤ s.size a)
    {hx : (M.access (Rect.unit off s.size inb)).Stores Finset.univ}
    {hm : (Finset.univ : Finset (Rect.unit off s.size inb).shape.Idx) = Finset.univ ∨ ∀ a, (Rect.unit off s.size inb).stride a = 1}
    {α : Type} {Q : α → sProp 𝕄} {k : PUnit → Prog (TpuEff nD τ sig (Elt F) Λ₀ .tc) α} :
    slotAny M c
      ⊢ iprop((slotP M c fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) := by
  subst hz
  unfold slotAny slotP
  iintro ⟨%f, H⟩ Hk
  iapply (wp_store 𝒱₀ (c : Thread nD τ) none Set.univ (m := M) (r := Rect.unit (fun _ => 0) s.size inb) (f := f)
    (S := M.view.set) (by rw [View.setOn_univ, View.set_slice]; exact View.setOn_subset_set _ _)) $$ H
  iintro H
  iapply Hk
  iexists _
  isplitr
  rotate_left
  · iexact H
  · ipureintro
    rw [← read_full M inb, View.read_write_univ]

/-- A value cast to another shape of as many elements, read through the inverse cast. -/
theorem cast_back {s s' : Shape} {α : Type} (w : s.Idx → α) (h : s'.numel = s.numel) (h' : s.numel = s'.numel) (i : s.Idx) :
    w (Shape.reshapeEquiv h (Shape.reshapeEquiv h' i)) = w i := by
  rw [Shape.reshapeEquiv_reshapeEquiv, Shape.reshapeEquiv_self]

end Cert.Proof
-- ==== Proof.Sched.lean ====
/-
  The schedule of the kernel's signals and transfers. Each device owns one barrier cell and one cell for each of its 28
  scratch transfer semaphores. The barrier cell of a device receives a unit from each of its three partners, its right
  neighbour, its left neighbour and the device across, and with the unit the scratch slots of the partner that the device
  will write. A send cell receives the lent share of the source when the copy is done, a receive cell receives the
  landed slot at the value that was sent.
-/
module

public import proofs.«01_k».proof.Proof.Slots

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline library's ghost state, and that of the kernel's own signals and transfers. -/
abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The devices of the ring -/

/-- The device j places behind c. -/
def bk (c : Dev nD) (j : ℕ) : Dev nD := ⟨(c.val + (8 - j)) % 8, Nat.mod_lt _ (by decide)⟩
/-- The device j places ahead of c. -/
def fw (c : Dev nD) (j : ℕ) : Dev nD := ⟨(c.val + j) % 8, Nat.mod_lt _ (by decide)⟩

theorem bk_zero (c : Dev nD) : bk c 0 = c := by revert c; decide
theorem fw_zero (c : Dev nD) : fw c 0 = c := by revert c; decide
theorem bk_fw (c : Dev nD) : bk (fw c 1) 1 = c := by revert c; decide
theorem bk_fw1 (c : Dev nD) : bk (fw c 1) 1 = bk c 0 := by revert c; decide
theorem bk_fw2 (c : Dev nD) : bk (fw c 1) 2 = bk c 1 := by revert c; decide
theorem bk_fw3 (c : Dev nD) : bk (fw c 1) 3 = bk c 2 := by revert c; decide
theorem fw_bk (c : Dev nD) : fw (bk c 1) 1 = c := by revert c; decide
theorem fw_bk1 (c : Dev nD) : fw (bk c 1) 1 = fw c 0 := by revert c; decide
theorem fw_bk2 (c : Dev nD) : fw (bk c 1) 2 = fw c 1 := by revert c; decide
theorem fw_bk3 (c : Dev nD) : fw (bk c 1) 3 = fw c 2 := by revert c; decide
theorem an_an (c : Dev nD) : fw (fw c 4) 4 = c := by revert c; decide

/-! ## The buffers, the semaphores, and what is sent -/

/-- The arrays a device's kernel reads, on every device. -/
structure Ins (F : FTy → Type) [FloatOps F] where
  x : Dev nD → Vec F S2x128x512 .f32
  wq : Dev nD → Vec F S512x256 .f32
  k : Dev nD → Vec F S256x2048 .bf16
  v : Dev nD → Vec F S256x2048 .bf16
  wo : Dev nD → Vec F S256x512 .f32

abbrev rwq : Memref sig .tc .vmem S4x512x256 .bf16 := Memref.whole cc0_scratch0
abbrev rwo : Memref sig .tc .vmem S4x256x512 .bf16 := Memref.whole cc0_scratch1
abbrev lwq : Memref sig .tc .vmem S4x512x256 .bf16 := Memref.whole cc0_scratch2
abbrev lwo : Memref sig .tc .vmem S4x256x512 .bf16 := Memref.whole cc0_scratch3
abbrev zwq : Memref sig .tc .vmem S1x512x256 .bf16 := Memref.whole cc0_scratch4
abbrev zwo : Memref sig .tc .vmem S1x256x512 .bf16 := Memref.whole cc0_scratch5
abbrev kgM : Memref sig .tc .vmem S8x256x256 .bf16 := Memref.whole cc0_scratch6
abbrev vgM : Memref sig .tc .vmem S8x256x256 .bf16 := Memref.whole cc0_scratch7

abbrev sq4 (M : Memref sig .tc .vmem S4x512x256 .bf16) (j : ℕ) (h : j < 4 := by decide) : Memref sig .tc .vmem S512x256 .bf16 := slot M j h
abbrev so4 (M : Memref sig .tc .vmem S4x256x512 .bf16) (j : ℕ) (h : j < 4 := by decide) : Memref sig .tc .vmem S256x512 .bf16 := slot M j h
abbrev zq : Memref sig .tc .vmem S512x256 .bf16 := slot zwq 0 (by decide)
abbrev zo : Memref sig .tc .vmem S256x512 .bf16 := slot zwo 0 (by decide)

/-- The rounded slice of Wq a device owns, and the rounded slice of Wo. -/
def wqb (I : Ins F) (d : Dev nD) : S512x256.Idx → Elt F .bf16 := k0_pay1 (I.wq d)
def wob (I : Ins F) (d : Dev nD) : S256x512.Idx → Elt F .bf16 := k0_pay2 (I.wo d)

/-- The barrier semaphore, and the k-th of the 28 transfer semaphores the kernel owns. -/
abbrev barS : Sem sig := (SemArray.scalar (sig.barrier 0 rfl) : Sems sig S_).sem
def ownS (k : Fin 28) : DmaSem sig := ⟨6 + k.val, by have := k.isLt; show 6 + k.val < 34; omega⟩

abbrev barCell (c : Dev nD) : GSem nD τ sig := ((c : Thread nD τ), .reg barS)
abbrev cell (c : Dev nD) (k : Fin 28) : GSem nD τ sig := ((c : Thread nD τ), .dma (ownS k))

theorem ownS_inj : Function.Injective ownS := fun a b h => by
  have h' : 6 + a.val = 6 + b.val := congrArg Fin.val h
  exact Fin.ext (by omega)

/-- What one transfer credits: every one moves the same number of bytes. -/
abbrev N : ℕ := (sq4 rwq 1).view.dmaCredit
theorem N_pos : 0 < N := View.dmaCredit_pos _ (by decide)

/-! ## The payloads -/

/-- Receive cell k of device c has been opened and is in its first round. -/
def rch (c : Dev nD) (k : Fin 28) : sProp 𝕄 := reached ER (cell c k) 0

instance rch_persistent (c : Dev nD) (k : Fin 28) : BI.Persistent (rch (F := F) c k) := by unfold rch; infer_instance
instance rch_storable (c : Dev nD) (k : Fin 28) : BI.Storable (upEmb : UEmb _ 𝕄) (rch (F := F) c k) := by unfold rch; infer_instance

/-- What the right neighbour p hands over: the slots its left neighbour writes, and that their receive cells are open. -/
def barR (p : Dev nD) : sProp 𝕄 :=
  iprop(slotAny (sq4 rwq 1) p ∗ slotAny (sq4 rwq 2) p ∗ slotAny (sq4 rwq 3) p
    ∗ slotAny (so4 rwo 1) p ∗ slotAny (so4 rwo 2) p ∗ slotAny (so4 rwo 3) p
    ∗ rch p 3 ∗ rch p 4 ∗ rch p 5 ∗ rch p 9 ∗ rch p 10 ∗ rch p 11)
/-- What the left neighbour p hands over: the slots its right neighbour writes, and that their receive cells are open. -/
def barL (p : Dev nD) : sProp 𝕄 :=
  iprop(slotAny (sq4 lwq 1) p ∗ slotAny (sq4 lwq 2) p ∗ slotAny (sq4 lwq 3) p
    ∗ slotAny (so4 lwo 1) p ∗ slotAny (so4 lwo 2) p ∗ slotAny (so4 lwo 3) p
    ∗ rch p 15 ∗ rch p 16 ∗ rch p 17 ∗ rch p 21 ∗ rch p 22 ∗ rch p 23)
/-- What the device across, p, hands over. -/
def barA (p : Dev nD) : sProp 𝕄 := iprop(slotAny zq p ∗ slotAny zo p ∗ rch p 25 ∗ rch p 27)

instance barR_storable (p : Dev nD) : BI.Storable (upEmb : UEmb _ 𝕄) (barR (F := F) p) := by unfold barR; infer_instance
instance barL_storable (p : Dev nD) : BI.Storable (upEmb : UEmb _ 𝕄) (barL (F := F) p) := by unfold barL; infer_instance
instance barA_storable (p : Dev nD) : BI.Storable (upEmb : UEmb _ 𝕄) (barA (F := F) p) := by unfold barA; infer_instance

/-- Paid into the barrier cell of c: unit 0 by the right neighbour, unit 1 by the left one, unit 2 by the device across. -/
def barPay (c : Dev nD) (d : Fin 3) : sProp 𝕄 :=
  if d = 0 then barR (fw c 1) else if d = 1 then barL (bk c 1) else barA (fw c 4)

instance barPay_storable (c : Dev nD) (d : Fin 3) : BI.Storable (upEmb : UEmb _ 𝕄) (barPay (F := F) c d) := by
  unfold barPay; (repeat' split) <;> infer_instance

/-- The share of a source slot that a copy to a neighbour is lent, and the one a copy across is lent. -/
abbrev qh : PosShare TreeShare := (fullShare : PosShare TreeShare).left
abbrev qz : PosShare TreeShare := (fullShare : PosShare TreeShare).right.left

/-- Paid into transfer cell k of device c. -/
def payK (I : Ins F) (c : Dev nD) (k : Fin 28) : sProp 𝕄 :=
  match k with
  | ⟨0, _⟩ => slotP (sq4 rwq 0) c qh (wqb I (bk c 0))
  | ⟨1, _⟩ => slotP (sq4 rwq 1) c qh (wqb I (bk c 1))
  | ⟨2, _⟩ => slotP (sq4 rwq 2) c qh (wqb I (bk c 2))
  | ⟨3, _⟩ => slotP (sq4 rwq 1) c fullShare (wqb I (bk c 1))
  | ⟨4, _⟩ => slotP (sq4 rwq 2) c fullShare (wqb I (bk c 2))
  | ⟨5, _⟩ => slotP (sq4 rwq 3) c fullShare (wqb I (bk c 3))
  | ⟨6, _⟩ => slotP (so4 rwo 0) c qh (wob I (bk c 0))
  | ⟨7, _⟩ => slotP (so4 rwo 1) c qh (wob I (bk c 1))
  | ⟨8, _⟩ => slotP (so4 rwo 2) c qh (wob I (bk c 2))
  | ⟨9, _⟩ => slotP (so4 rwo 1) c fullShare (wob I (bk c 1))
  | ⟨10, _⟩ => slotP (so4 rwo 2) c fullShare (wob I (bk c 2))
  | ⟨11, _⟩ => slotP (so4 rwo 3) c fullShare (wob I (bk c 3))
  | ⟨12, _⟩ => slotP (sq4 lwq 0) c qh (wqb I (fw c 0))
  | ⟨13, _⟩ => slotP (sq4 lwq 1) c qh (wqb I (fw c 1))
  | ⟨14, _⟩ => slotP (sq4 lwq 2) c qh (wqb I (fw c 2))
  | ⟨15, _⟩ => slotP (sq4 lwq 1) c fullShare (wqb I (fw c 1))
  | ⟨16, _⟩ => slotP (sq4 lwq 2) c fullShare (wqb I (fw c 2))
  | ⟨17, _⟩ => slotP (sq4 lwq 3) c fullShare (wqb I (fw c 3))
  | ⟨18, _⟩ => slotP (so4 lwo 0) c qh (wob I (fw c 0))
  | ⟨19, _⟩ => slotP (so4 lwo 1) c qh (wob I (fw c 1))
  | ⟨20, _⟩ => slotP (so4 lwo 2) c qh (wob I (fw c 2))
  | ⟨21, _⟩ => slotP (so4 lwo 1) c fullShare (wob I (fw c 1))
  | ⟨22, _⟩ => slotP (so4 lwo 2) c fullShare (wob I (fw c 2))
  | ⟨23, _⟩ => slotP (so4 lwo 3) c fullShare (wob I (fw c 3))
  | ⟨24, _⟩ => slotP (sq4 rwq 0) c qz (wqb I (bk c 0))
  | ⟨25, _⟩ => slotP zq c fullShare (wqb I (fw c 4))
  | ⟨26, _⟩ => slotP (so4 rwo 0) c qz (wob I (bk c 0))
  | _ => slotP zo c fullShare (wob I (fw c 4))

instance payK_storable (I : Ins F) (c : Dev nD) (k : Fin 28) : BI.Storable (upEmb : UEmb _ 𝕄) (payK I c k) := by
  unfold payK; split <;> infer_instance

/-! ## The schedule -/

/-- Three units into each barrier cell and one transfer into each of the kernel's own transfer cells, all in round 0. -/
def sched (I : Ins F) : Rounds.Schedule (GSem nD τ sig) (Fin 3) 𝕄 where
  duties g r := if r = 0 ∧ g.1.2 = .tc then
      (match g.2 with
        | .reg s => if s = barS then Finset.univ else ∅
        | .dma d => if 6 ≤ d.val then {0} else ∅)
    else ∅
  unitless _ := False
  amount g _ _ := match g.2 with | .reg _ => 1 | .dma _ => N
  payload g _ d := match g.2 with
    | .reg _ => barPay g.1.1 d
    | .dma s => if h : s.val - 6 < 28 then payK I g.1.1 ⟨s.val - 6, h⟩ else iprop(emp)
  amount_pos g _ _ _ := by
    rcases g with ⟨t, (s | s)⟩
    · exact Nat.one_pos
    · exact N_pos

instance sched_storable (I : Ins F) (g : GSem nD τ sig) (r : ℕ) (d : Fin 3) :
    BI.Storable (upEmb : UEmb _ 𝕄) ((sched I).payload g r d) := by
  rcases g with ⟨t, (s | s)⟩
  · show BI.Storable upEmb (barPay t.1 d); infer_instance
  · show BI.Storable upEmb (if h : s.val - 6 < 28 then payK I t.1 ⟨s.val - 6, h⟩ else iprop(emp))
    split <;> infer_instance

section Facts

variable (I : Ins F) (c : Dev nD)

theorem duties_bar : (sched I).duties (barCell c) 0 = Finset.univ := by
  dsimp only [sched]; rw [if_pos ⟨rfl, rfl⟩]; exact if_pos rfl
theorem duties_cell (k : Fin 28) : (sched I).duties (cell c k) 0 = {0} := by
  dsimp only [sched]; rw [if_pos ⟨rfl, rfl⟩]; exact if_pos (Nat.le_add_right 6 k.val)
theorem duties_later (g : GSem nD τ sig) : ∀ r, 1 ≤ r → (sched I).duties g r = ∅ :=
  fun r hr => by dsimp only [sched]; rw [if_neg (fun h => by omega)]
theorem amount_bar (d : Fin 3) : (sched I).amount (barCell c) 0 d = 1 := rfl
theorem amount_cell (k : Fin 28) (d : Fin 3) : (sched I).amount (cell c k) 0 d = N := rfl
theorem payload_bar (d : Fin 3) : (sched I).payload (barCell c) 0 d = barPay c d := rfl
theorem payload_cell (k : Fin 28) (d : Fin 3) : (sched I).payload (cell c k) 0 d = payK I c k := by
  show (if h : (6 + k.val) - 6 < 28 then payK I c ⟨(6 + k.val) - 6, h⟩ else iprop(emp)) = _
  have e : (6 + k.val) - 6 = k.val := by omega
  rw [dif_pos (by rw [e]; exact k.isLt)]
  congr 1; exact Fin.ext e
theorem expect_bar : (sched I).expect (barCell c) 0 = 3 := by
  unfold Schedule.expect Schedule.amountOf; rw [duties_bar]
  simp only [amount_bar]; rfl
theorem expect_cell (k : Fin 28) : (sched I).expect (cell c k) 0 = N := by
  unfold Schedule.expect Schedule.amountOf; rw [duties_cell, Finset.sum_singleton, amount_cell]
theorem rest_cell (k : Fin 28) :
    bigSep ((sched I).duties (cell c k) 0 \ ∅) (fun d => (sched I).payload (cell c k) 0 d) = payK I c k := by
  rw [Finset.sdiff_empty, duties_cell, bigSep_singleton, payload_cell]
theorem rest_bar :
    bigSep ((sched I).duties (barCell c) 0 \ ∅) (fun d => (sched I).payload (barCell c) 0 d)
      = iprop(barR (fw c 1) ∗ barL (bk c 1) ∗ barA (fw c 4)) := by
  rw [Finset.sdiff_empty, duties_bar, bigSep_univ_eq_bigSepL [0, 1, 2] (by decide) (by decide)]
  rfl

end Facts

/-! ## The transfers -/

/-- The send cell and the receive cell of each of the 14 transfers a device starts, and where the transfer goes. -/
def kS : Fin 14 → Fin 28 := ![0, 1, 2, 6, 7, 8, 12, 13, 14, 18, 19, 20, 24, 26]
def kR : Fin 14 → Fin 28 := ![3, 4, 5, 9, 10, 11, 15, 16, 17, 21, 22, 23, 25, 27]
def pe (t : Fin 14) (c : Dev nD) : Dev nD := if t.val < 6 then fw c 1 else if t.val < 12 then bk c 1 else fw c 4

/-- What device c still owes its partners' receive cells when the transfers of the list are still to be started. -/
def owesL (c : Dev nD) : List (Fin 14) → CellTallies nD τ sig Unit
  | [] => 0
  | t :: l => owesL c l + tallyAt (cell (pe t c) (kR t)) () N

/-- The transfers in the order the program starts them. -/
abbrev order : List (Fin 14) := [0, 6, 3, 9, 12, 13, 1, 7, 4, 10, 2, 8, 5, 11]

/-- What device c owes at launch: its transfers' credits and its three barrier units. -/
def O₀ (c : Dev nD) : CellTallies nD τ sig Unit :=
  ((owesL c order + tallyAt (barCell (fw c 4)) () 1) + tallyAt (barCell (fw c 1)) () 1) + tallyAt (barCell (bk c 1)) () 1

def L (g : GSem nD τ sig) : Finset Unit := if g.1.2 = .tc then {()} else ∅
/-- The level of each transfer cell: a receive cell of hop h stands at 2 + h. -/
def lvK : Fin 28 → ℕ := ![0,0,0, 2,3,4, 0,0,0, 2,3,4, 0,0,0, 2,3,4, 0,0,0, 2,3,4, 0, 2, 0, 2]
def lv (g : GSem nD τ sig) (_ : Unit) : ℕ := match g.2 with
  | .reg _ => 1
  | .dma s => if h : 6 ≤ s.val ∧ s.val - 6 < 28 then lvK ⟨s.val - 6, h.2⟩ else 0

theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : Fin 28) (u : Unit) : lv (cell c k) u = lvK k := by
  show (if h : 6 ≤ 6 + k.val ∧ (6 + k.val) - 6 < 28 then lvK ⟨(6 + k.val) - 6, h.2⟩ else 0) = _
  have e : (6 + k.val) - 6 = k.val := by omega
  rw [dif_pos ⟨Nat.le_add_right _ _, by rw [e]; exact k.isLt⟩]
  congr 1; exact Fin.ext e
theorem lv_bar (c : Dev nD) (u : Unit) : lv (barCell c) u = 1 := rfl

/-- Everything owed is owed to a cell of level above n. -/
def Abv (n : ℕ) (O : CellTallies nD τ sig Unit) : Prop := ∀ g u, 0 < O g u → u ∈ L g ∧ n < lv g u

theorem abv_zero (n : ℕ) : Abv n 0 := fun g u h => absurd h (Nat.lt_irrefl 0)
theorem abv_add (n : ℕ) {O O' : CellTallies nD τ sig Unit} (h : Abv n O) (h' : Abv n O') : Abv n (O + O') := fun g u hg => by
  have : 0 < O g u + O' g u := hg
  rcases Nat.eq_zero_or_pos (O g u) with h0 | h0
  · exact h' g u (by omega)
  · exact h g u h0
theorem abv_tally (n : ℕ) (c : Dev nD) (sm : SemLoc sig) (a : ℕ) (h : n < lv ((c : Thread nD τ), sm) ()) :
    Abv n (tallyAt ((c : Thread nD τ), sm) () a) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)
theorem abv_owesL (n : ℕ) (c : Dev nD) : ∀ l : List (Fin 14), (∀ t ∈ l, n < lvK (kR t)) → Abv n (owesL c l)
  | [], _ => abv_zero n
  | t :: l, h => abv_add n (abv_owesL n c l fun t' ht => h t' (List.mem_cons_of_mem _ ht))
      (abv_tally n _ _ _ (by rw [lv_cell]; exact h t List.mem_cons_self))
theorem abv_O₀ (c : Dev nD) : Abv 0 (O₀ c) := by
  have hb : ∀ p : Dev nD, Abv 0 (tallyAt (barCell p) () 1) := fun p => abv_tally 0 _ _ _ (by rw [lv_bar]; decide)
  exact abv_add 0 (abv_add 0 (abv_add 0 (abv_owesL 0 c _ (by decide)) (hb _)) (hb _)) (hb _)

/-- A device may wait on a cell that lies below everything it owes. -/
theorem mayWait (c : Dev nD) (sm : SemLoc sig) (O : CellTallies nD τ sig Unit) (n : ℕ)
    (hn : lv ((c : Thread nD τ), sm) () ≤ n) (hA : Abv n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hA g u hg).1)
    (fun p hp => by rw [Finset.mem_singleton.mp hp]; exact hn)
    (fun g u hg => (hA g u hg).2)

/-! ## The shared knowledge -/

/-- Every barrier cell and every transfer cell of every device follows the schedule. -/
def allInv (I : Ins F) (K : GSem nD τ sig → ℕ) : sProp 𝕄 :=
  iprop(bigSep Finset.univ (fun c : Dev nD => cellInv ER (sched I) (K (barCell c)) (barCell c))
    ∗ bigSep Finset.univ (fun p : Dev nD × Fin 28 => cellInv ER (sched I) (K (cell p.1 p.2)) (cell p.1 p.2)))

instance allInv_persistent (I : Ins F) (K : GSem nD τ sig → ℕ) : BI.Persistent (allInv I K) := by unfold allInv; infer_instance

theorem inv_bar (I : Ins F) (K : GSem nD τ sig → ℕ) (c : Dev nD) :
    (allInv I K : sProp 𝕄) ⊢ cellInv ER (sched I) (K (barCell c)) (barCell c) := by
  unfold allInv
  exact Laws.sep_elim_left.trans (bigSep_elim (Φ := fun c : Dev nD => cellInv ER (sched I) (K (barCell c)) (barCell c)) (Finset.mem_univ c))
theorem inv_cell (I : Ins F) (K : GSem nD τ sig → ℕ) (c : Dev nD) (k : Fin 28) :
    (allInv I K : sProp 𝕄) ⊢ cellInv ER (sched I) (K (cell c k)) (cell c k) := by
  unfold allInv
  exact Laws.sep_elim_right.trans
    (bigSep_elim (Φ := fun p : Dev nD × Fin 28 => cellInv ER (sched I) (K (cell p.1 p.2)) (cell p.1 p.2)) (Finset.mem_univ (c, k)))

/-- What every step of device c may use again and again: the schedule's invariants, the levels, and that the device's own
    transfer cells are open. -/
def ctx (I : Ins F) (K : GSem nD τ sig → ℕ) (c : Dev nD) : sProp 𝕄 :=
  iprop(allInv I K ∗ levAts L lv ∗ bigSep Finset.univ (fun k : Fin 28 => rch c k))

instance ctx_persistent (I : Ins F) (K : GSem nD τ sig → ℕ) (c : Dev nD) : BI.Persistent (ctx I K c) := by unfold ctx; infer_instance

theorem ctx_rch (I : Ins F) (K : GSem nD τ sig → ℕ) (c : Dev nD) (k : Fin 28) : (ctx I K c : sProp 𝕄) ⊢ rch c k := by
  unfold ctx
  exact Laws.sep_elim_right.trans (Laws.sep_elim_right.trans (bigSep_elim (Φ := fun k : Fin 28 => rch c k) (Finset.mem_univ k)))

/-- Device c owes O, whatever its waits so far. -/
def owesX (c : Dev nD) (O : CellTallies nD τ sig Unit) : sProp 𝕄 := iprop(∃ W, owes (c : Thread nD τ) O W)

/-- What starting transfer t needs. -/
def tok (t : Fin 14) (c : Dev nD) : sProp 𝕄 :=
  iprop(atPos ER (cell c (kS t)) 0 ∅ 0 ∗ dutyTok ER (cell c (kS t)) 0 0 ∗ dutyTok ER (cell (pe t c) (kR t)) 0 0)
/-- What waiting on transfer cell k needs. -/
def wtok (k : Fin 28) (c : Dev nD) : sProp 𝕄 :=
  iprop(cred (tallyAt (cell c k) () N) ∗ atPos ER (cell c k) 0 ∅ 0)

/-! ## The steps of the protocol -/

section Steps

variable (I : Ins F) (K : GSem nD τ sig → ℕ) (c : Dev nD)

/-- A unit into the barrier cell of the partner p: pays duty d there with what p is handed. -/
theorem sig_step {P' : Dev nD} (p : Dev nD) (hp : P' = p) {sm : Sem sig} (hs : sm = barS) (d : Fin 3) (O : CellTallies nD τ sig Unit)
    (O' : CellTallies nD τ sig Unit) (hO : O' = O + tallyAt (barCell p) () 1) (pay : sProp 𝕄) (hpay : barPay p d = pay)
    {α : Type} {k : PUnit → Prog (TpuEff nD τ sig (Elt F) Λ₀ .tc) α} {Q : α → sProp 𝕄} :
    iprop(ctx I K c ∗ owesX c O' ∗ dutyTok ER (barCell p) 0 d ∗ reached ER (barCell p) 0 ∗ pay)
      ⊢ iprop((owesX c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (P' : Thread nD τ) sm 1) k) Q) := by
  subst hp hs hpay
  unfold ctx owesX
  iintro ⟨⟨#HI, -, -⟩, ⟨%W, HO⟩, Ht, Hr, Hp⟩ Hk
  ihave #Hb := (inv_bar I K P') $$ HI
  iapply (Rounds.wp_signal 𝒱₀ ER (sched I) (c : Thread nD τ) none (dst := (P' : Thread nD τ)) (sem := barS) (r := 0) (d := d)
    (κ := K (barCell P')) (by rw [duties_bar]; exact Finset.mem_univ _) (amount_bar I P' d) () O hO (W := W)) $$ [HO Ht Hr Hp]
  · isplitr; · iexact Hb
    isplitl [HO]; · iexact HO
    isplitl [Ht]; · iexact Ht
    isplitl [Hp]; · rw [payload_bar]; iexact Hp
    iexact Hr
  iintro HO; iapply Hk; iexists W; iexact HO

/-- The wait for the three units on the own barrier cell: the slots the device will write come with them. -/
theorem bar_step {sm : Sem sig} (hs : sm = barS) (O : CellTallies nD τ sig Unit) (hA : Abv 1 O)
    {α : Type} {k : PUnit → Prog (TpuEff nD τ sig (Elt F) Λ₀ .tc) α} {Q : α → sProp 𝕄} :
    iprop(ctx I K c ∗ owesX c O ∗ cred (tallyAt (barCell c) () 3) ∗ atPos ER (barCell c) 0 ∅ 0)
      ⊢ iprop(((owesX c O ∗ semVal (barCell c) 0 ∗ barR (fw c 1) ∗ barL (bk c 1) ∗ barA (fw c 4))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait sm 3) k) Q) := by
  subst hs
  unfold ctx owesX
  iintro ⟨⟨#HI, #Hl, -⟩, ⟨%W, HO⟩, Hc, Ha⟩ Hk
  ihave #Hb := (inv_bar I K c) $$ HI
  iapply (Rounds.wp_wait_rest_token 𝒱₀ ER (sched I) (c : Thread nD τ) none (κ := K (barCell c))
      (wpE_semWait_eq 𝒱₀ (c : Thread nD τ) none Set.univ) (Set.mem_univ _) () (O := O) (W := W) (R := 0) (m := 0) (T := ∅)
      ((Nat.zero_add 3).trans (expect_bar I c).symm)) $$ [HO Hc Ha]
  · isplitr; · iexact Hb
    isplitl [Hc]; · iexact Hc
    isplitl [HO]; · iexact HO
    isplitr; · iapply (mayWait c (.reg barS) O 1 (le_of_eq (lv_bar c ())) hA); iexact Hl
    iexact Ha
  iintro ⟨HO, Ha, -, Hp⟩
  ihave Hp' := (Entails.of_eq (rest_bar I c)) $$ Hp
  imod (Rounds.cell_close ER (sched I) (Set.mem_univ (K (barCell c))) id (duties_later I (barCell c))) $$ [Ha] with Hz
  · isplitr; · iexact Hb
    iexact Ha
  icases Hp' with ⟨HpR, HpL, HpA⟩
  iapply Hk
  isplitl [HO]; · iexists _; iexact HO
  isplitl [Hz]; · iexact Hz
  isplitl [HpR]; · iexact HpR
  isplitl [HpL]; · iexact HpL
  iexact HpA

/-- The start of transfer t: lends the source's share, hands the destination slot over, and keeps the right to wait for
    the source. -/
theorem snd_step {s : Shape} (t : Fin 14) (l : List (Fin 14)) {n : Dev nD} (src dst : Memref sig .tc .vmem s .bf16)
    (p : Dev nD) (hpe : pe t c = p) (hn : n = p) {sS sR : DmaSem sig} (hsS : sS = ownS (kS t)) (hsR : sR = ownS (kR t))
    (q : PosShare TreeShare) (w : s.Idx → Elt F .bf16)
    (hN : dst.view.dmaCredit = N) (hp₁ : payK I c (kS t) = slotP src c q w) (hp₂ : payK I p (kR t) = slotP dst p fullShare w)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {k : PUnit → Prog (TpuEff nD τ sig (Elt F) Λ₀ .tc) α} {Q : α → sProp 𝕄} :
    iprop(ctx I K c ∗ owesX c (owesL c (t :: l)) ∗ tok t c ∗ rch p (kR t) ∗ slotP src c q w ∗ slotAny dst p)
      ⊢ iprop(((owesX c (owesL c l) ∗ wtok (kS t) c)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma sS) hsc) (.dma sR) hsrc hdst hsem) k) Q) := by
  subst hpe hn hsS hsR
  iintro ⟨#HC, HO, Ht, Hr, Hs, Hd⟩ Hk
  ihave #Hro := (ctx_rch I K c (kS t)) $$ HC
  unfold ctx owesX tok wtok slotAny rch
  icases HC with ⟨#HI, -, -⟩
  icases HO with ⟨%W, HO⟩
  icases Ht with ⟨Ha, Ht1, Ht2⟩
  ihave Hs' := (Entails.of_eq (show slotP src c q w = iprop(∃ f : Buf (Elt F) (src.view.loc (c : Thread nD τ)),
    ⌜src.view.read (Elt F) f = w⌝ ∗ (src.view.loc (c : Thread nD τ) ↦[src.view.set]{q} f)) from rfl)) $$ Hs
  icases Hs' with ⟨%f, %hf, Hs⟩
  icases Hd with ⟨%g, Hd⟩
  ihave #Hi1 := (inv_cell I K c (kS t)) $$ HI
  ihave #Hi2 := (inv_cell I K (pe t c) (kR t)) $$ HI
  iapply (Rounds.wp_send_pointsTo 𝒱₀ ER (sched I) (c : Thread nD τ) none (c' := (pe t c : Thread nD τ)) (src := src) (dst := dst)
      (sS := .dma (ownS (kS t))) (sem := .dma (ownS (kR t))) (q := q) (fs := f) (fd := g)
      (κ₁ := K (cell c (kS t))) (κ₂ := K (cell (pe t c) (kR t))) (r₁ := 0) (r₂ := 0) (d₁ := 0) (d₂ := 0)
      (by rw [duties_cell]; exact Finset.mem_singleton_self _) (by rw [duties_cell]; exact Finset.mem_singleton_self _)
      () () N hN (amount_cell I c _ 0) (amount_cell I _ _ 0) (owesL c l) rfl (W := W)
      (by rw [payload_cell, hp₁]; unfold slotP; iintro H; iexists f; isplitr; · ipureintro; exact hf
          iexact H)
      (by rw [payload_cell, hp₂]; unfold slotP; iintro H; iexists _; isplitr; swap; · iexact H
          ipureintro; rw [View.read_write_univ, hf])) $$ [HO Ht1 Ht2 Hr Hs Hd]
  · isplitr; · iexact Hi1
    isplitr; · iexact Hi2
    isplitl [Hs]; · iexact Hs
    isplitl [Hd]; · iexact Hd
    isplitl [HO]; · iexact HO
    isplitl [Ht1]; · iexact Ht1
    isplitr; · iexact Hro
    isplitl [Ht2]; · iexact Ht2
    iexact Hr
  iintro ⟨Hc, HO⟩
  iapply Hk
  isplitl [HO]; · iexists W; iexact HO
  isplitl [Hc]; · iexact Hc
  iexact Ha

/-- The wait on transfer cell k: its payload comes back and its counter is back in hand at zero. -/
theorem wt_step {s s' : Shape} {e : EltTy} (κ : Fin 28) {sm : DmaSem sig} (hs : sm = ownS κ)
    {src : Memref sig .tc .vmem s e} {dst : Memref sig .tc .vmem s' e} (O : CellTallies nD τ sig Unit) (hA : Abv (lvK κ) O)
    (hN : dst.view.dmaCredit = N) (pay : sProp 𝕄) (hp : payK I c κ = pay)
    {h1 : src.view.WordExact} {h2 : dst.view.WordExact}
    {α : Type} {k : PUnit → Prog (TpuEff nD τ sig (Elt F) Λ₀ .tc) α} {Q : α → sProp 𝕄} :
    iprop(ctx I K c ∗ owesX c O ∗ wtok κ c)
      ⊢ iprop(((owesX c O ∗ semVal (cell c κ) 0 ∗ pay)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst h1 h2) k) Q) := by
  subst hs hp
  unfold ctx owesX wtok
  iintro ⟨⟨#HI, #Hl, -⟩, ⟨%W, HO⟩, Hc, Ha⟩ Hk
  ihave #Hb := (inv_cell I K c κ) $$ HI
  iapply (Rounds.wp_wait_rest_token 𝒱₀ ER (sched I) (c : Thread nD τ) none (κ := K (cell c κ))
      (wpE_waitDma2_eq (src := src) (dst := dst) 𝒱₀ (c : Thread nD τ) none Set.univ) (Set.mem_univ _) () (O := O) (W := W) (R := 0) (m := 0) (T := ∅)
      (by rw [hN]; exact (Nat.zero_add N).trans (expect_cell I c κ).symm)) $$ [HO Hc Ha]
  · isplitr; · iexact Hb
    isplitl [Hc]; · rw [hN]; iexact Hc
    isplitl [HO]; · iexact HO
    isplitr; · iapply (mayWait c (.dma (ownS κ)) O (lvK κ) (le_of_eq (lv_cell c κ ())) hA); iexact Hl
    iexact Ha
  iintro ⟨HO, Ha, -, Hp⟩
  ihave Hp' := (Entails.of_eq (rest_cell I c κ)) $$ Hp
  imod (Rounds.cell_close ER (sched I) (Set.mem_univ (K (cell c κ))) id (duties_later I (cell c κ))) $$ [Ha] with Hz
  · isplitr; · iexact Hb
    iexact Ha
  iapply Hk
  isplitl [HO]; · iexists _; iexact HO
  isplitl [Hz]; · iexact Hz
  iexact Hp'

end Steps

end Cert.Proof
-- ==== Proof.Vals.lean ====
/-
  The values the kernel computes, named: the keys and values of one device's heads, the heads' outputs, what one
  device's slice of the weights adds to the result, and the result of a device.
-/
module

public import proofs.«01_k».proof.Proof.Sched

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The six windows of the call, as they lie in fast memory. -/
abbrev xW : Memref sig .tc .vmem S2x128x512 .f32 := Memref.whole cc0_stg0_0
abbrev wqW : Memref sig .tc .vmem S512x256 .f32 := Memref.whole cc0_stg1_0
abbrev kW : Memref sig .tc .vmem S256x2048 .bf16 := Memref.whole cc0_stg2_0
abbrev vW : Memref sig .tc .vmem S256x2048 .bf16 := Memref.whole cc0_stg3_0
abbrev woW : Memref sig .tc .vmem S256x512 .f32 := Memref.whole cc0_stg4_0
abbrev oW : Memref sig .tc .vmem S2x128x512 .f32 := Memref.whole cc0_stg5_0

theorem zero2 : (![0, 0] : Fin 2 → ℕ) = fun _ => 0 := funext fun x => by fin_cases x <;> rfl
theorem zero3 : (![0, 0, 0] : Fin 3 → ℕ) = fun _ => 0 := funext fun x => by fin_cases x <;> rfl

/-- A piece of the body at the call's own windows, buffers and semaphores. -/
abbrev atBufs {β : Sort*} (f : ∀ (arg0 : Memref sig .tc .vmem S2x128x512 .f32) (harg0 : arg0.IsWhole) (arg1 : Memref sig .tc .vmem S512x256 .f32) (harg1 : arg1.IsWhole) (arg2 : Memref sig .tc .vmem S256x2048 .bf16) (harg2 : arg2.IsWhole)
      (arg3 : Memref sig .tc .vmem S256x2048 .bf16) (harg3 : arg3.IsWhole) (arg4 : Memref sig .tc .vmem S256x512 .f32) (harg4 : arg4.IsWhole) (arg5 : Memref sig .tc .vmem S2x128x512 .f32) (harg5 : arg5.IsWhole)
      (arg6 : Memref sig .tc .vmem S4x512x256 .bf16) (harg6 : arg6.IsWhole) (arg7 : Memref sig .tc .vmem S4x256x512 .bf16) (harg7 : arg7.IsWhole) (arg8 : Memref sig .tc .vmem S4x512x256 .bf16) (harg8 : arg8.IsWhole)
      (arg9 : Memref sig .tc .vmem S4x256x512 .bf16) (harg9 : arg9.IsWhole) (arg10 : Memref sig .tc .vmem S1x512x256 .bf16) (harg10 : arg10.IsWhole) (arg11 : Memref sig .tc .vmem S1x256x512 .bf16) (harg11 : arg11.IsWhole)
      (arg12 : Memref sig .tc .vmem S8x256x256 .bf16) (harg12 : arg12.IsWhole) (arg13 : Memref sig .tc .vmem S8x256x256 .bf16) (harg13 : arg13.IsWhole) (arg14 : DmaSems sig S3)
      (arg15 : DmaSems sig S3) (arg16 : DmaSems sig S3) (arg17 : DmaSems sig S3)
      (arg18 : DmaSems sig S3) (arg19 : DmaSems sig S3) (arg20 : DmaSems sig S3)
      (arg21 : DmaSems sig S3) (arg22 : DmaSems sig S1) (arg23 : DmaSems sig S1)
      (arg24 : DmaSems sig S1) (arg25 : DmaSems sig S1), β) : β :=
  f xW (Memref.isWhole_whole _) wqW (Memref.isWhole_whole _) kW (Memref.isWhole_whole _) vW (Memref.isWhole_whole _)
    woW (Memref.isWhole_whole _) oW (Memref.isWhole_whole _) rwq (Memref.isWhole_whole _) rwo (Memref.isWhole_whole _)
    lwq (Memref.isWhole_whole _) lwo (Memref.isWhole_whole _) zwq (Memref.isWhole_whole _) zwo (Memref.isWhole_whole _)
    kgM (Memref.isWhole_whole _) vgM (Memref.isWhole_whole _) cc0_scratch8 cc0_scratch9 cc0_scratch10 cc0_scratch11
    cc0_scratch12 cc0_scratch13 cc0_scratch14 cc0_scratch15 cc0_scratch16 cc0_scratch17 cc0_scratch18 cc0_scratch19

theorem lt4_0 : 0 < 4 := by decide
theorem lt4_1 : 1 < 4 := by decide
theorem lt4_2 : 2 < 4 := by decide
theorem lt4_3 : 3 < 4 := by decide

/-! The devices that the kernel computes for its signals and copies. -/

theorem dev1_eq (c : Dev nD) : (⟨k0_dev1 c, k0_dev1_lt c⟩ : Dev nD) = bk c 1 := Fin.ext (k0_dev1_eq c)
theorem dev2_eq (c : Dev nD) : (⟨k0_dev2 c, k0_dev2_lt c⟩ : Dev nD) = fw c 1 := Fin.ext (k0_dev2_eq c)
theorem dev3_eq (c : Dev nD) : (⟨k0_dev3 c, k0_dev3_lt c⟩ : Dev nD) = fw c 4 := Fin.ext (k0_dev3_eq c)
theorem dev4_eq (c : Dev nD) : (⟨k0_dev4 c, k0_dev4_lt c⟩ : Dev nD) = fw c 1 := Fin.ext (k0_dev4_eq c)
theorem dev5_eq (c : Dev nD) : (⟨k0_dev5 c, k0_dev5_lt c⟩ : Dev nD) = bk c 1 := Fin.ext (k0_dev5_eq c)
theorem dev6_eq (c : Dev nD) : (⟨k0_dev6 c, k0_dev6_lt c⟩ : Dev nD) = fw c 1 := Fin.ext (k0_dev6_eq c)
theorem dev7_eq (c : Dev nD) : (⟨k0_dev7 c, k0_dev7_lt c⟩ : Dev nD) = bk c 1 := Fin.ext (k0_dev7_eq c)
theorem dev8_eq (c : Dev nD) : (⟨k0_dev8 c, k0_dev8_lt c⟩ : Dev nD) = fw c 4 := Fin.ext (k0_dev8_eq c)
theorem dev9_eq (c : Dev nD) : (⟨k0_dev9 c, k0_dev9_lt c⟩ : Dev nD) = fw c 4 := Fin.ext (k0_dev9_eq c)
theorem dev10_eq (c : Dev nD) : (⟨k0_dev10 c, k0_dev10_lt c⟩ : Dev nD) = fw c 1 := Fin.ext (k0_dev10_eq c)
theorem dev11_eq (c : Dev nD) : (⟨k0_dev11 c, k0_dev11_lt c⟩ : Dev nD) = bk c 1 := Fin.ext (k0_dev11_eq c)
theorem dev12_eq (c : Dev nD) : (⟨k0_dev12 c, k0_dev12_lt c⟩ : Dev nD) = fw c 1 := Fin.ext (k0_dev12_eq c)
theorem dev13_eq (c : Dev nD) : (⟨k0_dev13 c, k0_dev13_lt c⟩ : Dev nD) = bk c 1 := Fin.ext (k0_dev13_eq c)
theorem dev14_eq (c : Dev nD) : (⟨k0_dev14 c, k0_dev14_lt c⟩ : Dev nD) = fw c 1 := Fin.ext (k0_dev14_eq c)
theorem dev15_eq (c : Dev nD) : (⟨k0_dev15 c, k0_dev15_lt c⟩ : Dev nD) = bk c 1 := Fin.ext (k0_dev15_eq c)
theorem dev16_eq (c : Dev nD) : (⟨k0_dev16 c, k0_dev16_lt c⟩ : Dev nD) = fw c 1 := Fin.ext (k0_dev16_eq c)
theorem dev17_eq (c : Dev nD) : (⟨k0_dev17 c, k0_dev17_lt c⟩ : Dev nD) = bk c 1 := Fin.ext (k0_dev17_eq c)

theorem slices_kvs (j : Fin 8) : S256x2048.Slices ![0, 256 * j.val] S256x256 := by revert j; decide

/-- The columns of the keys (or the values) that belong to the heads of device j. -/
def kvs (a : S256x2048.Idx → Elt F .bf16) (j : Fin 8) : S256x256.Idx → Elt F .bf16 :=
  extractStridedSlice S256x256 ![0, 256 * j.val] a (slices_kvs j)

/-- A value as a load from a slot gives it: with a leading axis of size one. -/
abbrev up {e : EltTy} {a b : ℕ} (w : (⟨2, ![a, b]⟩ : Shape).Idx → Elt F e) : (⟨3, ![1, a, b]⟩ : Shape).Idx → Elt F e :=
  fun i => w (Shape.reshapeEquiv (squeezes_slot (a := a) (b := b)).numel_eq.symm i)

section Slot

variable {n a b : ℕ} {e : EltTy} (M : Memref sig .tc .vmem (⟨3, ![n, a, b]⟩ : Shape) e) (j : ℕ) (hj : j < n) (c : Dev nD)

/-- A load from slot j; -/
theorem ld (q : PosShare TreeShare) (w : (⟨2, ![a, b]⟩ : Shape).Idx → Elt F e) {hl : M.view.LoadsAt (slotRect (a := a) (b := b) j hj).toLoadRect}
    {α : Type} {Q : α → sProp 𝕄} {k : ((⟨3, ![1, a, b]⟩ : Shape).Idx → Elt F e) → Prog (TpuEff nD τ sig (Elt F) Λ₀ .tc) α} :
    slotP (slot M j hj) c q w
      ⊢ iprop((slotP (slot M j hj) c q w -∗ wp frame (wpE (defs₀ (F := F)) 𝒱₀ (c : Thread nD τ) none) Set.univ (k (up w)) Q)
          -∗ wp frame (wpE (defs₀ (F := F)) 𝒱₀ (c : Thread nD τ) none) Set.univ (.op (.load M (slotRect j hj).toLoadRect hl) k) Q) :=
  load_slot M (slotRect j hj) (fun _ => rfl) ⟨2, ![a, b]⟩ squeezes_slot c q w

/-- one whose value is not used; -/
theorem ld_any {hl : M.view.LoadsAt (slotRect (a := a) (b := b) j hj).toLoadRect}
    {α : Type} {Q : α → sProp 𝕄} {k : ((⟨3, ![1, a, b]⟩ : Shape).Idx → Elt F e) → Prog (TpuEff nD τ sig (Elt F) Λ₀ .tc) α} :
    slotAny (slot M j hj) c
      ⊢ iprop((∀ v, slotAny (slot M j hj) c -∗ wp frame (wpE (defs₀ (F := F)) 𝒱₀ (c : Thread nD τ) none) Set.univ (k v) Q)
          -∗ wp frame (wpE (defs₀ (F := F)) 𝒱₀ (c : Thread nD τ) none) Set.univ (.op (.load M (slotRect j hj).toLoadRect hl) k) Q) :=
  load_any M (slotRect j hj) (fun _ => rfl) ⟨2, ![a, b]⟩ squeezes_slot c

/-- a store into it of a value cast to the slot's shape. -/
theorem st (w : (⟨2, ![a, b]⟩ : Shape).Idx → Elt F e) (v : (⟨3, ![1, a, b]⟩ : Shape).Idx → Elt F e)
    (h : (⟨3, ![1, a, b]⟩ : Shape).numel = (⟨2, ![a, b]⟩ : Shape).numel) (hv : v = fun i => w (Shape.reshapeEquiv h i))
    {hx : (M.access (slotRect (a := a) (b := b) j hj)).Stores Finset.univ}
    {hm : (Finset.univ : Finset (slotRect (a := a) (b := b) j hj).shape.Idx) = Finset.univ ∨ ∀ x, (slotRect (a := a) (b := b) j hj).stride x = 1}
    {α : Type} {Q : α → sProp 𝕄} {k : PUnit → Prog (TpuEff nD τ sig (Elt F) Λ₀ .tc) α} :
    slotAny (slot M j hj) c
      ⊢ iprop((slotP (slot M j hj) c fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (slotRect j hj) v Finset.univ hx hm) k) Q) :=
  store_slot M (slotRect j hj) (fun _ => rfl) ⟨2, ![a, b]⟩ squeezes_slot c v w (fun i => by subst hv; exact cast_back w _ _ i)

end Slot

variable (I : Ins F) (c : Dev nD)

/-- The keys and the values of device c, all slots, as the kernel keeps them. -/
def kfam : sProp 𝕄 := bigSep Finset.univ (fun j : Fin 8 => slotP (slot kgM j.val j.isLt) c fullShare (kvs (k0_pay11 (I.k c)) j))
def vfam : sProp 𝕄 := bigSep Finset.univ (fun j : Fin 8 => slotP (slot vgM j.val j.isLt) c fullShare (kvs (k0_pay12 (I.v c)) j))

theorem load_k (j : Fin 8) (off : Fin 3 → ℕ) (hoff : off = ![j.val, 0, 0])
    (inb : ∀ x, off x + S1x256x256.size x ≤ S8x256x256.size x)
    {hl : kgM.view.LoadsAt (Rect.unit (s := S8x256x256) off S1x256x256.size inb).toLoadRect}
    {α : Type} {Q : α → sProp 𝕄} {k : (S1x256x256.Idx → Elt F .bf16) → Prog (TpuEff nD τ sig (Elt F) Λ₀ .tc) α} :
    kfam I c
      ⊢ iprop((kfam I c -∗ wp frame (wpE (defs₀ (F := F)) 𝒱₀ (c : Thread nD τ) none) Set.univ (k (up (kvs (k0_pay11 (I.k c)) j))) Q)
          -∗ wp frame (wpE (defs₀ (F := F)) 𝒱₀ (c : Thread nD τ) none) Set.univ
              (.op (.load kgM (Rect.unit (s := S8x256x256) off S1x256x256.size inb).toLoadRect hl) k) Q) := by
  unfold kfam
  exact load_family kgM c fullShare (fun j => kvs (k0_pay11 (I.k c)) j) j off hoff inb

theorem load_v (j : Fin 8) (off : Fin 3 → ℕ) (hoff : off = ![j.val, 0, 0])
    (inb : ∀ x, off x + S1x256x256.size x ≤ S8x256x256.size x)
    {hl : vgM.view.LoadsAt (Rect.unit (s := S8x256x256) off S1x256x256.size inb).toLoadRect}
    {α : Type} {Q : α → sProp 𝕄} {k : (S1x256x256.Idx → Elt F .bf16) → Prog (TpuEff nD τ sig (Elt F) Λ₀ .tc) α} :
    vfam I c
      ⊢ iprop((vfam I c -∗ wp frame (wpE (defs₀ (F := F)) 𝒱₀ (c : Thread nD τ) none) Set.univ (k (up (kvs (k0_pay12 (I.v c)) j))) Q)
          -∗ wp frame (wpE (defs₀ (F := F)) 𝒱₀ (c : Thread nD τ) none) Set.univ
              (.op (.load vgM (Rect.unit (s := S8x256x256) off S1x256x256.size inb).toLoadRect hl) k) Q) := by
  unfold vfam
  exact load_family vgM c fullShare (fun j => kvs (k0_pay12 (I.v c)) j) j off hoff inb

section Steps

variable (K : GSem nD τ sig → ℕ)

/-- The start of transfer t from a slot of which the share q is held: the left half is lent, the right half stays. -/
theorem snd {s : Shape} (t : Fin 14) (k₁ k₂ : Fin 28) (l : List (Fin 14)) {n : Dev nD} (src dst : Memref sig .tc .vmem s .bf16)
    (p : Dev nD) (hpe : pe t c = p) (hk₁ : kS t = k₁) (hk₂ : kR t = k₂) (hn : n = p) {sS sR : DmaSem sig} (hsS : sS = ownS k₁) (hsR : sR = ownS k₂)
    (q : PosShare TreeShare) (w : s.Idx → Elt F .bf16)
    (hN : dst.view.dmaCredit = N) (hp₁ : payK I c k₁ = slotP src c q.left w) (hp₂ : payK I p k₂ = slotP dst p fullShare w)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {k : PUnit → Prog (TpuEff nD τ sig (Elt F) Λ₀ .tc) α} {Q : α → sProp 𝕄} :
    ctx I K c ⊢ iprop(owesX c (owesL c (t :: l)) -∗ tok t c -∗ rch p k₂ -∗ slotP src c q w -∗ slotAny dst p
      -∗ ((owesX c (owesL c l) ∗ wtok k₁ c ∗ slotP src c q.right w)
          -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma sS) hsc) (.dma sR) hsrc hdst hsem) k) Q) := by
  subst hk₁ hk₂
  iintro HC HO Ht Hr Hs Hd Hk
  ihave Hs := (slotP_split src c q w) $$ Hs
  icases Hs with ⟨Hl, Hs⟩
  iapply (snd_step I K c t l src dst p hpe hn hsS hsR q.left w hN hp₁ hp₂) $$ [HC HO Ht Hr Hl Hd]
  · iframe
  iintro ⟨HO, Hw⟩
  iapply Hk
  iframe

/-- The wait on transfer cell κ. -/
theorem wt {s s' : Shape} {e : EltTy} (κ : Fin 28) {sm : DmaSem sig} (hs : sm = ownS κ)
    {src : Memref sig .tc .vmem s e} {dst : Memref sig .tc .vmem s' e} (l : List (Fin 14)) (hA : ∀ t ∈ l, lvK κ < lvK (kR t))
    (hN : dst.view.dmaCredit = N) (pay : sProp 𝕄) (hp : payK I c κ = pay)
    {h1 : src.view.WordExact} {h2 : dst.view.WordExact}
    {α : Type} {k : PUnit → Prog (TpuEff nD τ sig (Elt F) Λ₀ .tc) α} {Q : α → sProp 𝕄} :
    ctx I K c ⊢ iprop(owesX c (owesL c l) -∗ wtok κ c
      -∗ ((owesX c (owesL c l) ∗ semVal (cell c κ) 0 ∗ pay)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm src dst h1 h2) k) Q) := by
  iintro HC HO Hw Hk
  iapply (wt_step I K c κ hs (owesL c l) (abv_owesL _ c l hA) hN pay hp) $$ [HC HO Hw]
  · iframe
  iintro H
  iapply Hk
  iexact H

end Steps

end Cert.Proof
-- ==== Proof.Parts.lean ====
/-
  The thirty parts of the kernel body, one theorem each.  The theorem of a part takes what the part
  uses: the units the device still owes, the signal and wait tokens of its transfers and the slots
  it reads and writes.  Its last hypothesis is handed what the part leaves and the values it returns.
-/
module

public import proofs.«01_k».proof.Proof.Vals

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD) (K : GSem nD τ sig → ℕ)

/-- Part 1: the device signals the barriers of its two ring neighbours and of the opposite device, waits for their three signals, and puts its own rounded query weights in slot 0 of the right-going family. -/
theorem run_part1 {Q : (Σ' (d0 : Dev nD) (v2 : BitVec 32) (v4 : BitVec 32) (v7 : BitVec 32) (v9 : BitVec 32) (v19 : FVec F S512x256 .bf16), FVec F S256x512 .bf16) → sProp 𝕄} :
    ctx I K c ⊢ iprop(owesX c (O₀ c) -∗
        dutyTok ER (barCell (bk c 1)) 0 0 -∗
        reached ER (barCell (bk c 1)) 0 -∗
        barR c -∗
        dutyTok ER (barCell (fw c 1)) 0 1 -∗
        reached ER (barCell (fw c 1)) 0 -∗
        barL c -∗
        dutyTok ER (barCell (fw c 4)) 0 2 -∗
        reached ER (barCell (fw c 4)) 0 -∗
        barA c -∗
        cred (tallyAt (barCell c) () 3) -∗
        atPos ER (barCell c) 0 ∅ 0 -∗
        slotP wqW c fullShare (I.wq c) -∗
        slotP woW c fullShare (I.wo c) -∗
        slotAny (sq4 rwq 0) c -∗
        (∀ v2 : BitVec 32, ∀ v4 : BitVec 32, ∀ v7 : BitVec 32, ∀ v9 : BitVec 32, (owesX c (owesL c order) ∗ semVal (barCell c) 0 ∗ barR (fw c 1) ∗ barL (bk c 1) ∗ barA (fw c 4) ∗ slotP wqW c fullShare (I.wq c) ∗ slotP woW c fullShare (I.wo c) ∗ slotP (sq4 rwq 0) c fullShare (k0_pay1 (I.wq c))) -∗ Q ⟨c, v2, v4, v7, v9, k0_pay1 (I.wq c), k0_pay2 (I.wo c)⟩)
      -∗ wp frame (wpE (defs₀ (F := F)) 𝒱₀ (c : Thread nD τ) none) Set.univ (atBufs (k0_part1 (F := F)) ) Q) := by
  unfold atBufs
  rw [k0_part1_eq_skeleton]
  unfold k0_part1_skel
  simp only [semSignalWord, semWaitWord, Prog.lift, Prog.bind_op, Prog.bind_ret, Prog.pure_eq_ret, wp_deviceId]
  iintro #HC HO T1 G1 B1 T2 G2 B2 T3 G3 B3 Cb Ab W1 W4 A0 Hk
  iapply (sig_step I K c (bk c 1) (dev1_eq c) rfl 0 (owesL c order + tallyAt (barCell (fw c 4)) () 1 + tallyAt (barCell (fw c 1)) () 1) (O₀ c) rfl (barR c) (by show barR (fw (bk c 1) 1) = _; rw [fw_bk])) $$ [HO T1 G1 B1]
  · iframe HC HO T1 G1 B1
  iintro HO
  iapply (sig_step I K c (fw c 1) (dev2_eq c) rfl 1 (owesL c order + tallyAt (barCell (fw c 4)) () 1) (owesL c order + tallyAt (barCell (fw c 4)) () 1 + tallyAt (barCell (fw c 1)) () 1) rfl (barL c) (by show barL (bk (fw c 1) 1) = _; rw [bk_fw])) $$ [HO T2 G2 B2]
  · iframe HC HO T2 G2 B2
  iintro HO
  iapply (sig_step I K c (fw c 4) (dev3_eq c) rfl 2 (owesL c order) (owesL c order + tallyAt (barCell (fw c 4)) () 1) rfl (barA c) (by show barA (fw (fw c 4) 4) = _; rw [an_an])) $$ [HO T3 G3 B3]
  · iframe HC HO T3 G3 B3
  iintro HO
  iapply (bar_step I K c rfl (owesL c order) (abv_owesL 1 c order (by decide))) $$ [HO Cb Ab]
  · iframe HC HO Cb Ab
  iintro ⟨HO, Zb, PR, PL, PA⟩
  iapply (load_whole wqW c fullShare (I.wq c) _ zero2 _) $$ W1
  iintro W1
  iapply (load_whole woW c fullShare (I.wo c) _ zero2 _) $$ W4
  iintro W4
  iapply (ld_any rwq 0 _ c) $$ A0
  iintro %uA0 A0
  iapply (st rwq 0 _ c (k0_pay1 (I.wq c)) _ _ rfl) $$ A0
  iintro A0
  rw [wp_ret]
  imodintro
  ispecialize Hk $$ %_ %_ %_ %_
  iapply Hk
  iframe

/-- Part 2: the own weights go to slot 0 of the three other slot families, and the rounded activations are read off. -/
theorem run_part2 (v19 : FVec F S512x256 .bf16) (v22 : FVec F S256x512 .bf16) {Q : (Σ' (v38 : FVec F S256x512 .bf16) (v63 : IVec S256x256 32), IVec S256x256 32) → sProp 𝕄} :
    ctx I K c ⊢ iprop(slotAny (so4 rwo 0) c -∗
        slotAny (sq4 lwq 0) c -∗
        slotAny (so4 lwo 0) c -∗
        slotP xW c fullShare (I.x c) -∗
        ((slotP (so4 rwo 0) c fullShare v22 ∗ slotP (sq4 lwq 0) c fullShare v19 ∗ slotP (so4 lwo 0) c fullShare v22 ∗ slotP xW c fullShare (I.x c)) -∗ Q ⟨k0_pay7 (I.x c), k0_pay8, (iota .tc S256x256 32 [1] iota_S256x256_d1_w32)⟩)
      -∗ wp frame (wpE (defs₀ (F := F)) 𝒱₀ (c : Thread nD τ) none) Set.univ (atBufs (k0_part2 (F := F)) v19 v22) Q) := by
  unfold atBufs
  rw [k0_part2_eq_skeleton]
  unfold k0_part2_skel
  simp only [semSignalWord, semWaitWord, Prog.lift, Prog.bind_op, Prog.bind_ret, Prog.pure_eq_ret, wp_deviceId]
  iintro #HC B0 C0 D0 W0 Hk
  iapply (ld_any rwo 0 _ c) $$ B0
  iintro %uB0 B0
  iapply (st rwo 0 _ c v22 _ _ rfl) $$ B0
  iintro B0
  iapply (ld_any lwq 0 _ c) $$ C0
  iintro %uC0 C0
  iapply (st lwq 0 _ c v19 _ _ rfl) $$ C0
  iintro C0
  iapply (ld_any lwo 0 _ c) $$ D0
  iintro %uD0 D0
  iapply (st lwo 0 _ c v22 _ _ rfl) $$ D0
  iintro D0
  iapply (load_whole xW c fullShare (I.x c) _ zero3 _) $$ W0
  iintro W0
  rw [wp_ret]
  imodintro
  iapply Hk
  iframe

/-- Part 3: the mask and the zero accumulator, and the first send to the right (transfer 0). -/
theorem run_part3 (v4 : BitVec 32) (v63 : IVec S256x256 32) (v64 : IVec S256x256 32) {Q : (Σ' (v91 : FVec F S256x256 .f32), FVec F S256x512 .f32) → sProp 𝕄} :
    ctx I K c ⊢ iprop(owesX c (owesL c [0, 6, 3, 9, 12, 13, 1, 7, 4, 10, 2, 8, 5, 11]) -∗
        tok 0 c -∗
        rch (fw c 1) 3 -∗
        slotP (sq4 rwq 0) c fullShare (wqb I (bk c 0)) -∗
        slotAny (sq4 rwq 1) (fw c 1) -∗
        ((owesX c (owesL c [6, 3, 9, 12, 13, 1, 7, 4, 10, 2, 8, 5, 11]) ∗ slotP (sq4 rwq 0) c (fullShare : PosShare TreeShare).right (wqb I (bk c 0)) ∗ wtok 0 c) -∗ Q ⟨k0_pay9 (F := F) v63 v64, k0_pay10 (F := F)⟩)
      -∗ wp frame (wpE (defs₀ (F := F)) 𝒱₀ (c : Thread nD τ) none) Set.univ (atBufs (k0_part3 (F := F)) c v4 v63 v64) Q) := by
  unfold atBufs
  rw [k0_part3_eq_skeleton]
  unfold k0_part3_skel
  simp only [semSignalWord, semWaitWord, Prog.lift, Prog.bind_op, Prog.bind_ret, Prog.pure_eq_ret, wp_deviceId]
  iintro #HC HO T0 G0 A0 PA1 Hk
  iapply (snd I c K 0 0 3 [6, 3, 9, 12, 13, 1, 7, 4, 10, 2, 8, 5, 11] (sq4 rwq 0 lt4_0) (sq4 rwq 1 lt4_1) (fw c 1) rfl rfl rfl (dev4_eq c) rfl rfl fullShare (wqb I (bk c 0)) rfl rfl (by rw [← bk_fw1]; rfl)) $$ HC HO T0 G0 A0 PA1
  iintro ⟨HO, S0, A0⟩
  rw [wp_ret]
  imodintro
  iapply Hk
  iframe

/-- Part 4: the first sends to the left and of the output weights (transfers 6, 3 and 9). -/
theorem run_part4 (v4 : BitVec 32) (v7 : BitVec 32) {Q : (PUnit) → sProp 𝕄} :
    ctx I K c ⊢ iprop(owesX c (owesL c [6, 3, 9, 12, 13, 1, 7, 4, 10, 2, 8, 5, 11]) -∗
        tok 6 c -∗
        rch (bk c 1) 15 -∗
        slotP (sq4 lwq 0) c fullShare (wqb I (fw c 0)) -∗
        slotAny (sq4 lwq 1) (bk c 1) -∗
        tok 3 c -∗
        rch (fw c 1) 9 -∗
        slotP (so4 rwo 0) c fullShare (wob I (bk c 0)) -∗
        slotAny (so4 rwo 1) (fw c 1) -∗
        tok 9 c -∗
        rch (bk c 1) 21 -∗
        slotP (so4 lwo 0) c fullShare (wob I (fw c 0)) -∗
        slotAny (so4 lwo 1) (bk c 1) -∗
        ((owesX c (owesL c [12, 13, 1, 7, 4, 10, 2, 8, 5, 11]) ∗ slotP (sq4 lwq 0) c (fullShare : PosShare TreeShare).right (wqb I (fw c 0)) ∗ wtok 12 c ∗ slotP (so4 rwo 0) c (fullShare : PosShare TreeShare).right (wob I (bk c 0)) ∗ wtok 6 c ∗ slotP (so4 lwo 0) c (fullShare : PosShare TreeShare).right (wob I (fw c 0)) ∗ wtok 18 c) -∗ Q ⟨⟩)
      -∗ wp frame (wpE (defs₀ (F := F)) 𝒱₀ (c : Thread nD τ) none) Set.univ (atBufs (k0_part4 (F := F)) c v4 v7) Q) := by
  unfold atBufs
  rw [k0_part4_eq_skeleton]
  unfold k0_part4_skel
  simp only [semSignalWord, semWaitWord, Prog.lift, Prog.bind_op, Prog.bind_ret, Prog.pure_eq_ret, wp_deviceId]
  iintro #HC HO T6 G6 C0 PC1 T3 G3 B0 PB1 T9 G9 D0 PD1 Hk
  iapply (snd I c K 6 12 15 [3, 9, 12, 13, 1, 7, 4, 10, 2, 8, 5, 11] (sq4 lwq 0 lt4_0) (sq4 lwq 1 lt4_1) (bk c 1) rfl rfl rfl (dev5_eq c) rfl rfl fullShare (wqb I (fw c 0)) rfl rfl (by rw [← fw_bk1]; rfl)) $$ HC HO T6 G6 C0 PC1
  iintro ⟨HO, S6, C0⟩
  iapply (snd I c K 3 6 9 [9, 12, 13, 1, 7, 4, 10, 2, 8, 5, 11] (so4 rwo 0 lt4_0) (so4 rwo 1 lt4_1) (fw c 1) rfl rfl rfl (dev6_eq c) rfl rfl fullShare (wob I (bk c 0)) rfl rfl (by rw [← bk_fw1]; rfl)) $$ HC HO T3 G3 B0 PB1
  iintro ⟨HO, S3, B0⟩
  iapply (snd I c K 9 18 21 [12, 13, 1, 7, 4, 10, 2, 8, 5, 11] (so4 lwo 0 lt4_0) (so4 lwo 1 lt4_1) (bk c 1) rfl rfl rfl (dev7_eq c) rfl rfl fullShare (wob I (fw c 0)) rfl rfl (by rw [← fw_bk1]; rfl)) $$ HC HO T9 G9 D0 PD1
  iintro ⟨HO, S9, D0⟩
  rw [wp_ret]
  imodintro
  iapply Hk
  iframe

/-- Part 5: the two sends to the opposite device (transfers 12 and 13); the keys and values are read and key slot 0 is filled. -/
theorem run_part5 (v9 : BitVec 32) {Q : (Σ' (v154 : FVec F S256x2048 .bf16) (v156 : FVec F S256x2048 .bf16), FVec F S256x256 .bf16) → sProp 𝕄} :
    ctx I K c ⊢ iprop(owesX c (owesL c [12, 13, 1, 7, 4, 10, 2, 8, 5, 11]) -∗
        tok 12 c -∗
        rch (fw c 4) 25 -∗
        slotP (sq4 rwq 0) c (fullShare : PosShare TreeShare).right (wqb I (bk c 0)) -∗
        slotAny zq (fw c 4) -∗
        tok 13 c -∗
        rch (fw c 4) 27 -∗
        slotP (so4 rwo 0) c (fullShare : PosShare TreeShare).right (wob I (bk c 0)) -∗
        slotAny zo (fw c 4) -∗
        slotP kW c fullShare (I.k c) -∗
        slotP vW c fullShare (I.v c) -∗
        slotAny (slot kgM 0 (by decide)) c -∗
        ((owesX c (owesL c [1, 7, 4, 10, 2, 8, 5, 11]) ∗ slotP (sq4 rwq 0) c (fullShare : PosShare TreeShare).right.right (wqb I (bk c 0)) ∗ wtok 24 c ∗ slotP (so4 rwo 0) c (fullShare : PosShare TreeShare).right.right (wob I (bk c 0)) ∗ wtok 26 c ∗ slotP kW c fullShare (I.k c) ∗ slotP vW c fullShare (I.v c) ∗ slotP (slot kgM 0 (by decide)) c fullShare (kvs (k0_pay11 (I.k c)) 0)) -∗ Q ⟨k0_pay11 (I.k c), k0_pay12 (I.v c), k0_pay14 (I.v c)⟩)
      -∗ wp frame (wpE (defs₀ (F := F)) 𝒱₀ (c : Thread nD τ) none) Set.univ (atBufs (k0_part5 (F := F)) c v9) Q) := by
  unfold atBufs
  rw [k0_part5_eq_skeleton]
  unfold k0_part5_skel
  simp only [semSignalWord, semWaitWord, Prog.lift, Prog.bind_op, Prog.bind_ret, Prog.pure_eq_ret, wp_deviceId]
  iintro #HC HO T12 G12 A0 PZ0 T13 G13 B0 PY0 W2 W3 K0 Hk
  iapply (snd I c K 12 24 25 [13, 1, 7, 4, 10, 2, 8, 5, 11] (sq4 rwq 0 lt4_0) zq (fw c 4) rfl rfl rfl (dev8_eq c) rfl rfl (fullShare : PosShare TreeShare).right (wqb I (bk c 0)) rfl rfl (by rw [bk_zero]; show slotP _ _ _ (wqb I (fw (fw c 4) 4)) = _; rw [an_an])) $$ HC HO T12 G12 A0 PZ0
  iintro ⟨HO, S12, A0⟩
  iapply (snd I c K 13 26 27 [1, 7, 4, 10, 2, 8, 5, 11] (so4 rwo 0 lt4_0) zo (fw c 4) rfl rfl rfl (dev9_eq c) rfl rfl (fullShare : PosShare TreeShare).right (wob I (bk c 0)) rfl rfl (by rw [bk_zero]; show slotP _ _ _ (wob I (fw (fw c 4) 4)) = _; rw [an_an])) $$ HC HO T13 G13 B0 PY0
  iintro ⟨HO, S13, B0⟩
  iapply (load_whole kW c fullShare (I.k c) _ zero2 _) $$ W2
  iintro W2
  iapply (load_whole vW c fullShare (I.v c) _ zero2 _) $$ W3
  iintro W3
  iapply (ld_any kgM 0 _ c) $$ K0
  iintro %uK0 K0
  iapply (st kgM 0 _ c (kvs (k0_pay11 (I.k c)) 0) _ _ rfl) $$ K0
  iintro K0
  rw [wp_ret]
  imodintro
  iapply Hk
  iframe

/-- Part 6: value slots 0 to 3 and key slots 1 to 3 are filled. -/
theorem run_part6 (v154 : FVec F S256x2048 .bf16) (v156 : FVec F S256x2048 .bf16) (v161 : FVec F S256x256 .bf16) {Q : (FVec F S256x256 .bf16) → sProp 𝕄} :
    ctx I K c ⊢ iprop(slotAny (slot vgM 0 (by decide)) c -∗
        slotAny (slot kgM 1 (by decide)) c -∗
        slotAny (slot vgM 1 (by decide)) c -∗
        slotAny (slot kgM 2 (by decide)) c -∗
        slotAny (slot vgM 2 (by decide)) c -∗
        slotAny (slot kgM 3 (by decide)) c -∗
        slotAny (slot vgM 3 (by decide)) c -∗
        slotAny (slot kgM 4 (by decide)) c -∗
        ((slotP (slot vgM 0 (by decide)) c fullShare v161 ∗ slotP (slot kgM 1 (by decide)) c fullShare (kvs v154 1) ∗ slotP (slot vgM 1 (by decide)) c fullShare (kvs v156 1) ∗ slotP (slot kgM 2 (by decide)) c fullShare (kvs v154 2) ∗ slotP (slot vgM 2 (by decide)) c fullShare (kvs v156 2) ∗ slotP (slot kgM 3 (by decide)) c fullShare (kvs v154 3) ∗ slotP (slot vgM 3 (by decide)) c fullShare (kvs v156 3) ∗ slotAny (slot kgM 4 (by decide)) c) -∗ Q (k0_pay22 v154))
      -∗ wp frame (wpE (defs₀ (F := F)) 𝒱₀ (c : Thread nD τ) none) Set.univ (atBufs (k0_part6 (F := F)) v154 v156 v161) Q) := by
  unfold atBufs
  rw [k0_part6_eq_skeleton]
  unfold k0_part6_skel
  simp only [semSignalWord, semWaitWord, Prog.lift, Prog.bind_op, Prog.bind_ret, Prog.pure_eq_ret, wp_deviceId]
  iintro #HC V0 K1 V1 K2 V2 K3 V3 K4 Hk
  iapply (ld_any vgM 0 _ c) $$ V0
  iintro %uV0 V0
  iapply (st vgM 0 _ c v161 _ _ rfl) $$ V0
  iintro V0
  iapply (ld_any kgM 1 _ c) $$ K1
  iintro %uK1 K1
  iapply (st kgM 1 _ c (kvs v154 1) _ _ rfl) $$ K1
  iintro K1
  iapply (ld_any vgM 1 _ c) $$ V1
  iintro %uV1 V1
  iapply (st vgM 1 _ c (kvs v156 1) _ _ rfl) $$ V1
  iintro V1
  iapply (ld_any kgM 2 _ c) $$ K2
  iintro %uK2 K2
  iapply (st kgM 2 _ c (kvs v154 2) _ _ rfl) $$ K2
  iintro K2
  iapply (ld_any vgM 2 _ c) $$ V2
  iintro %uV2 V2
  iapply (st vgM 2 _ c (kvs v156 2) _ _ rfl) $$ V2
  iintro V2
  iapply (ld_any kgM 3 _ c) $$ K3
  iintro %uK3 K3
  iapply (st kgM 3 _ c (kvs v154 3) _ _ rfl) $$ K3
  iintro K3
  iapply (ld_any vgM 3 _ c) $$ V3
  iintro %uV3 V3
  iapply (st vgM 3 _ c (kvs v156 3) _ _ rfl) $$ V3
  iintro V3
  iapply (ld_any kgM 4 _ c) $$ K4
  iintro %uK4 K4
  rw [wp_ret]
  imodintro
  iapply Hk
  iframe

/-- Part 7: the remaining key and value slots are filled. -/
theorem run_part7 (v154 : FVec F S256x2048 .bf16) (v156 : FVec F S256x2048 .bf16) (v189 : FVec F S256x256 .bf16) {Q : (PUnit) → sProp 𝕄} :
    ctx I K c ⊢ iprop(slotAny (slot kgM 4 (by decide)) c -∗
        slotAny (slot vgM 4 (by decide)) c -∗
        slotAny (slot kgM 5 (by decide)) c -∗
        slotAny (slot vgM 5 (by decide)) c -∗
        slotAny (slot kgM 6 (by decide)) c -∗
        slotAny (slot vgM 6 (by decide)) c -∗
        slotAny (slot kgM 7 (by decide)) c -∗
        slotAny (slot vgM 7 (by decide)) c -∗
        ((slotP (slot kgM 4 (by decide)) c fullShare v189 ∗ slotP (slot vgM 4 (by decide)) c fullShare (kvs v156 4) ∗ slotP (slot kgM 5 (by decide)) c fullShare (kvs v154 5) ∗ slotP (slot vgM 5 (by decide)) c fullShare (kvs v156 5) ∗ slotP (slot kgM 6 (by decide)) c fullShare (kvs v154 6) ∗ slotP (slot vgM 6 (by decide)) c fullShare (kvs v156 6) ∗ slotP (slot kgM 7 (by decide)) c fullShare (kvs v154 7) ∗ slotP (slot vgM 7 (by decide)) c fullShare (kvs v156 7)) -∗ Q ⟨⟩)
      -∗ wp frame (wpE (defs₀ (F := F)) 𝒱₀ (c : Thread nD τ) none) Set.univ (atBufs (k0_part7 (F := F)) v154 v156 v189) Q) := by
  unfold atBufs
  rw [k0_part7_eq_skeleton]
  unfold k0_part7_skel
  simp only [semSignalWord, semWaitWord, Prog.lift, Prog.bind_op, Prog.bind_ret, Prog.pure_eq_ret, wp_deviceId]
  iintro #HC K4 V4 K5 V5 K6 V6 K7 V7 Hk
  iapply (st kgM 4 _ c v189 _ _ rfl) $$ K4
  iintro K4
  iapply (ld_any vgM 4 _ c) $$ V4
  iintro %uV4 V4
  iapply (st vgM 4 _ c (kvs v156 4) _ _ rfl) $$ V4
  iintro V4
  iapply (ld_any kgM 5 _ c) $$ K5
  iintro %uK5 K5
  iapply (st kgM 5 _ c (kvs v154 5) _ _ rfl) $$ K5
  iintro K5
  iapply (ld_any vgM 5 _ c) $$ V5
  iintro %uV5 V5
  iapply (st vgM 5 _ c (kvs v156 5) _ _ rfl) $$ V5
  iintro V5
  iapply (ld_any kgM 6 _ c) $$ K6
  iintro %uK6 K6
  iapply (st kgM 6 _ c (kvs v154 6) _ _ rfl) $$ K6
  iintro K6
  iapply (ld_any vgM 6 _ c) $$ V6
  iintro %uV6 V6
  iapply (st vgM 6 _ c (kvs v156 6) _ _ rfl) $$ V6
  iintro V6
  iapply (ld_any kgM 7 _ c) $$ K7
  iintro %uK7 K7
  iapply (st kgM 7 _ c (kvs v154 7) _ _ rfl) $$ K7
  iintro K7
  iapply (ld_any vgM 7 _ c) $$ V7
  iintro %uV7 V7
  iapply (st vgM 7 _ c (kvs v156 7) _ _ rfl) $$ V7
  iintro V7
  rw [wp_ret]
  imodintro
  iapply Hk
  iframe

/-- Part 8: first half of the group of the device's own slice of the weights. -/
theorem run_part8 (v2 : BitVec 32) (v38 : FVec F S256x512 .bf16) (v91 : FVec F S256x256 .f32) {Q : (Σ' (v224 : FVec F S256x512 .bf16) (v228 : FVec F S256x256 .bf16) (v231 : FVec F S256x256 .bf16) (v234 : FVec F S256x256 .bf16) (v246 : FVec F S256x64 .f32) (v258 : FVec F S256x64 .f32) (v261 : FVec F S256x64 .bf16), FVec F S256x256 .f32) → sProp 𝕄} :
    ctx I K c ⊢ iprop(slotP (sq4 rwq 0) c (fullShare : PosShare TreeShare).right.right (wqb I (bk c 0)) -∗
        slotP (so4 rwo 0) c (fullShare : PosShare TreeShare).right.right (wob I (bk c 0)) -∗
        kfam I c -∗
        vfam I c -∗
        ((slotP (sq4 rwq 0) c (fullShare : PosShare TreeShare).right.right (wqb I (bk c 0)) ∗ slotP (so4 rwo 0) c (fullShare : PosShare TreeShare).right.right (wob I (bk c 0)) ∗ kfam I c ∗ vfam I c) -∗ Q ⟨k0_pay31 (up (wob I (bk c 0))), k0_pay32 v38 (up (wqb I (bk c 0))), k0_pay33 (up (kvs (k0_pay11 (I.k c)) c)), k0_pay34 (up (kvs (k0_pay12 (I.v c)) c)), k0_pay35 v38 v91 (up (wqb I (bk c 0))) (up (kvs (k0_pay11 (I.k c)) c)) (up (kvs (k0_pay12 (I.v c)) c)), k0_pay36 v38 v91 (up (wqb I (bk c 0))) (up (kvs (k0_pay11 (I.k c)) c)) (up (kvs (k0_pay12 (I.v c)) c)), k0_pay37 (up (kvs (k0_pay12 (I.v c)) c)), k0_pay38 v38 (up (wqb I (bk c 0))) (up (kvs (k0_pay11 (I.k c)) c))⟩)
      -∗ wp frame (wpE (defs₀ (F := F)) 𝒱₀ (c : Thread nD τ) none) Set.univ (atBufs (k0_part8 (F := F)) c v2 v38 v91) Q) := by
  unfold atBufs
  rw [k0_part8_eq_skeleton]
  unfold k0_part8_skel
  simp only [semSignalWord, semWaitWord, Prog.lift, Prog.bind_op, Prog.bind_ret, Prog.pure_eq_ret, wp_deviceId]
  iintro #HC A0 B0 KF VF Hk
  iapply (ld rwq 0 _ c (fullShare : PosShare TreeShare).right.right (wqb I (bk c 0))) $$ A0
  iintro A0
  iapply (ld rwo 0 _ c (fullShare : PosShare TreeShare).right.right (wob I (bk c 0))) $$ B0
  iintro B0
  iapply (load_k I c c _ (k0_off1_eq c) _) $$ KF
  iintro KF
  iapply (load_v I c c _ (k0_off1_eq c) _) $$ VF
  iintro VF
  rw [wp_ret]
  imodintro
  iapply Hk
  iframe

/-- Part 9: the own group is added; the device waits for the query weights one hop from the left. -/
theorem run_part9 (v4 : BitVec 32) (v91 : FVec F S256x256 .f32) (v92 : FVec F S256x512 .f32) (v224 : FVec F S256x512 .bf16) (v228 : FVec F S256x256 .bf16) (v231 : FVec F S256x256 .bf16) (v234 : FVec F S256x256 .bf16) (v246 : FVec F S256x64 .f32) (v258 : FVec F S256x64 .f32) (v261 : FVec F S256x64 .bf16) (v263 : FVec F S256x256 .f32) {Q : (FVec F S256x512 .f32) → sProp 𝕄} :
    ctx I K c ⊢ iprop(owesX c (owesL c [1, 7, 4, 10, 2, 8, 5, 11]) -∗
        wtok 3 c -∗
        ((owesX c (owesL c [1, 7, 4, 10, 2, 8, 5, 11]) ∗ semVal (cell c 3) 0 ∗ slotP (sq4 rwq 1) c fullShare (wqb I (bk c 1))) -∗ Q (k0_pay39 v91 v92 v224 v228 v231 v234 v246 v258 v261 v263))
      -∗ wp frame (wpE (defs₀ (F := F)) 𝒱₀ (c : Thread nD τ) none) Set.univ (atBufs (k0_part9 (F := F)) v4 v91 v92 v224 v228 v231 v234 v246 v258 v261 v263) Q) := by
  unfold atBufs
  rw [k0_part9_eq_skeleton]
  unfold k0_part9_skel
  simp only [semSignalWord, semWaitWord, Prog.lift, Prog.bind_op, Prog.bind_ret, Prog.pure_eq_ret, wp_deviceId]
  iintro #HC HO R0 Hk
  iapply (wt I c K 3 (src := (sq4 rwq 0 lt4_0)) (dst := (sq4 rwq 1 lt4_1)) rfl [1, 7, 4, 10, 2, 8, 5, 11] (by decide) rfl (slotP (sq4 rwq 1 lt4_1) c fullShare (wqb I (bk c 1))) rfl) $$ HC HO R0
  iintro ⟨HO, z3, A1⟩
  rw [wp_ret]
  imodintro
  iapply Hk
  iframe

/-- Part 10: these weights are forwarded (transfer 1), and those one hop from the right are received and forwarded (transfer 7). -/
theorem run_part10 (v4 : BitVec 32) (v7 : BitVec 32) {Q : (PUnit) → sProp 𝕄} :
    ctx I K c ⊢ iprop(owesX c (owesL c [1, 7, 4, 10, 2, 8, 5, 11]) -∗
        tok 1 c -∗
        rch (fw c 1) 4 -∗
        slotP (sq4 rwq 1) c fullShare (wqb I (bk c 1)) -∗
        slotAny (sq4 rwq 2) (fw c 1) -∗
        wtok 15 c -∗
        tok 7 c -∗
        rch (bk c 1) 16 -∗
        slotAny (sq4 lwq 2) (bk c 1) -∗
        ((owesX c (owesL c [4, 10, 2, 8, 5, 11]) ∗ slotP (sq4 rwq 1) c (fullShare : PosShare TreeShare).right (wqb I (bk c 1)) ∗ wtok 1 c ∗ semVal (cell c 15) 0 ∗ slotP (sq4 lwq 1) c (fullShare : PosShare TreeShare).right (wqb I (fw c 1)) ∗ wtok 13 c) -∗ Q ⟨⟩)
      -∗ wp frame (wpE (defs₀ (F := F)) 𝒱₀ (c : Thread nD τ) none) Set.univ (atBufs (k0_part10 (F := F)) c v4 v7) Q) := by
  unfold atBufs
  rw [k0_part10_eq_skeleton]
  unfold k0_part10_skel
  simp only [semSignalWord, semWaitWord, Prog.lift, Prog.bind_op, Prog.bind_ret, Prog.pure_eq_ret, wp_deviceId]
  iintro #HC HO T1 G1 A1 PA2 R6 T7 G7 PC2 Hk
  iapply (snd I c K 1 1 4 [7, 4, 10, 2, 8, 5, 11] (sq4 rwq 1 lt4_1) (sq4 rwq 2 lt4_2) (fw c 1) rfl rfl rfl (dev10_eq c) rfl rfl fullShare (wqb I (bk c 1)) rfl rfl (by rw [← bk_fw2]; rfl)) $$ HC HO T1 G1 A1 PA2
  iintro ⟨HO, S1, A1⟩
  iapply (wt I c K 15 (src := (sq4 lwq 0 lt4_0)) (dst := (sq4 lwq 1 lt4_1)) rfl [7, 4, 10, 2, 8, 5, 11] (by decide) rfl (slotP (sq4 lwq 1 lt4_1) c fullShare (wqb I (fw c 1))) rfl) $$ HC HO R6
  iintro ⟨HO, z15, C1⟩
  iapply (snd I c K 7 13 16 [4, 10, 2, 8, 5, 11] (sq4 lwq 1 lt4_1) (sq4 lwq 2 lt4_2) (bk c 1) rfl rfl rfl (dev11_eq c) rfl rfl fullShare (wqb I (fw c 1)) rfl rfl (by rw [← fw_bk2]; rfl)) $$ HC HO T7 G7 C1 PC2
  iintro ⟨HO, S7, C1⟩
  rw [wp_ret]
  imodintro
  iapply Hk
  iframe

/-- Part 11: the output weights of hop one arrive from both sides; the right-going ones are forwarded (transfer 4). -/
theorem run_part11 (v4 : BitVec 32) (v7 : BitVec 32) {Q : (PUnit) → sProp 𝕄} :
    ctx I K c ⊢ iprop(owesX c (owesL c [4, 10, 2, 8, 5, 11]) -∗
        wtok 9 c -∗
        tok 4 c -∗
        rch (fw c 1) 10 -∗
        slotAny (so4 rwo 2) (fw c 1) -∗
        wtok 21 c -∗
        ((owesX c (owesL c [10, 2, 8, 5, 11]) ∗ semVal (cell c 9) 0 ∗ slotP (so4 rwo 1) c (fullShare : PosShare TreeShare).right (wob I (bk c 1)) ∗ wtok 7 c ∗ semVal (cell c 21) 0 ∗ slotP (so4 lwo 1) c fullShare (wob I (fw c 1))) -∗ Q ⟨⟩)
      -∗ wp frame (wpE (defs₀ (F := F)) 𝒱₀ (c : Thread nD τ) none) Set.univ (atBufs (k0_part11 (F := F)) c v4 v7) Q) := by
  unfold atBufs
  rw [k0_part11_eq_skeleton]
  unfold k0_part11_skel
  simp only [semSignalWord, semWaitWord, Prog.lift, Prog.bind_op, Prog.bind_ret, Prog.pure_eq_ret, wp_deviceId]
  iintro #HC HO R3 T4 G4 PB2 R9 Hk
  iapply (wt I c K 9 (src := (so4 rwo 0 lt4_0)) (dst := (so4 rwo 1 lt4_1)) rfl [4, 10, 2, 8, 5, 11] (by decide) rfl (slotP (so4 rwo 1 lt4_1) c fullShare (wob I (bk c 1))) rfl) $$ HC HO R3
  iintro ⟨HO, z9, B1⟩
  iapply (snd I c K 4 7 10 [10, 2, 8, 5, 11] (so4 rwo 1 lt4_1) (so4 rwo 2 lt4_2) (fw c 1) rfl rfl rfl (dev12_eq c) rfl rfl fullShare (wob I (bk c 1)) rfl rfl (by rw [← bk_fw2]; rfl)) $$ HC HO T4 G4 B1 PB2
  iintro ⟨HO, S4, B1⟩
  iapply (wt I c K 21 (src := (so4 lwo 0 lt4_0)) (dst := (so4 lwo 1 lt4_1)) rfl [10, 2, 8, 5, 11] (by decide) rfl (slotP (so4 lwo 1 lt4_1) c fullShare (wob I (fw c 1))) rfl) $$ HC HO R9
  iintro ⟨HO, z21, D1⟩
  rw [wp_ret]
  imodintro
  iapply Hk
  iframe

/-- Part 12: the left-going output weights are forwarded (transfer 10); the group of the left neighbour's slice begins. -/
theorem run_part12 (v2 : BitVec 32) (v38 : FVec F S256x512 .bf16) (v91 : FVec F S256x256 .f32) {Q : (Σ' (v365 : FVec F S256x512 .bf16) (v369 : FVec F S256x256 .bf16) (v372 : FVec F S256x256 .bf16) (v375 : FVec F S256x256 .bf16) (v387 : FVec F S256x64 .f32) (v388 : FVec F S256x64 .bf16) (v389 : FVec F S256x64 .bf16) (v390 : FVec F S256x64 .bf16), FVec F S256x256 .f32) → sProp 𝕄} :
    ctx I K c ⊢ iprop(owesX c (owesL c [10, 2, 8, 5, 11]) -∗
        tok 10 c -∗
        rch (bk c 1) 22 -∗
        slotP (so4 lwo 1) c fullShare (wob I (fw c 1)) -∗
        slotAny (so4 lwo 2) (bk c 1) -∗
        slotP (sq4 rwq 1) c (fullShare : PosShare TreeShare).right (wqb I (bk c 1)) -∗
        slotP (so4 rwo 1) c (fullShare : PosShare TreeShare).right (wob I (bk c 1)) -∗
        kfam I c -∗
        vfam I c -∗
        ((owesX c (owesL c [2, 8, 5, 11]) ∗ slotP (so4 lwo 1) c (fullShare : PosShare TreeShare).right (wob I (fw c 1)) ∗ wtok 19 c ∗ slotP (sq4 rwq 1) c (fullShare : PosShare TreeShare).right (wqb I (bk c 1)) ∗ slotP (so4 rwo 1) c (fullShare : PosShare TreeShare).right (wob I (bk c 1)) ∗ kfam I c ∗ vfam I c) -∗ Q ⟨k0_pay40 (up (wob I (bk c 1))), k0_pay41 v38 (up (wqb I (bk c 1))), k0_pay42 (up (kvs (k0_pay11 (I.k c)) (bk c 1))), k0_pay43 (up (kvs (k0_pay12 (I.v c)) (bk c 1))), k0_pay44 v38 v91 (up (wqb I (bk c 1))) (up (kvs (k0_pay11 (I.k c)) (bk c 1))) (up (kvs (k0_pay12 (I.v c)) (bk c 1))), k0_pay45 v38 (up (wqb I (bk c 1))), k0_pay46 (up (kvs (k0_pay11 (I.k c)) (bk c 1))), k0_pay47 (up (kvs (k0_pay12 (I.v c)) (bk c 1))), (constant S256x256 .f32 0x00000000#32)⟩)
      -∗ wp frame (wpE (defs₀ (F := F)) 𝒱₀ (c : Thread nD τ) none) Set.univ (atBufs (k0_part12 (F := F)) c v2 v38 v91) Q) := by
  unfold atBufs
  rw [k0_part12_eq_skeleton]
  unfold k0_part12_skel
  simp only [semSignalWord, semWaitWord, Prog.lift, Prog.bind_op, Prog.bind_ret, Prog.pure_eq_ret, wp_deviceId]
  iintro #HC HO T10 G10 D1 PD2 A1 B1 KF VF Hk
  iapply (snd I c K 10 19 22 [2, 8, 5, 11] (so4 lwo 1 lt4_1) (so4 lwo 2 lt4_2) (bk c 1) rfl rfl rfl (dev13_eq c) rfl rfl fullShare (wob I (fw c 1)) rfl rfl (by rw [← fw_bk2]; rfl)) $$ HC HO T10 G10 D1 PD2
  iintro ⟨HO, S10, D1⟩
  iapply (ld rwq 1 _ c (fullShare : PosShare TreeShare).right (wqb I (bk c 1))) $$ A1
  iintro A1
  iapply (ld rwo 1 _ c (fullShare : PosShare TreeShare).right (wob I (bk c 1))) $$ B1
  iintro B1
  iapply (load_k I c (bk c 1) _ (k0_off2_eq c 0) _) $$ KF
  iintro KF
  iapply (load_v I c (bk c 1) _ (k0_off2_eq c 0) _) $$ VF
  iintro VF
  rw [wp_ret]
  imodintro
  iapply Hk
  iframe

/-- Part 13: the left neighbour's group is added; the right neighbour's weights are read. -/
theorem run_part13 (v2 : BitVec 32) (v91 : FVec F S256x256 .f32) (v286 : FVec F S256x512 .f32) (v365 : FVec F S256x512 .bf16) (v369 : FVec F S256x256 .bf16) (v372 : FVec F S256x256 .bf16) (v375 : FVec F S256x256 .bf16) (v387 : FVec F S256x64 .f32) (v388 : FVec F S256x64 .bf16) (v389 : FVec F S256x64 .bf16) (v390 : FVec F S256x64 .bf16) (cst_272 : FVec F S256x256 .f32) {Q : (Σ' (v427 : FVec F S256x512 .f32) (v429 : BitVec 32) (v431 : FVec F S512x256 .bf16), FVec F S256x512 .bf16) → sProp 𝕄} :
    ctx I K c ⊢ iprop(slotP (sq4 lwq 1) c (fullShare : PosShare TreeShare).right (wqb I (fw c 1)) -∗
        slotP (so4 lwo 1) c (fullShare : PosShare TreeShare).right (wob I (fw c 1)) -∗
        (∀ v429 : BitVec 32, (slotP (sq4 lwq 1) c (fullShare : PosShare TreeShare).right (wqb I (fw c 1)) ∗ slotP (so4 lwo 1) c (fullShare : PosShare TreeShare).right (wob I (fw c 1))) -∗ Q ⟨k0_pay48 v91 v286 v365 v369 v372 v375 v387 v388 v389 v390 cst_272, v429, k0_pay49 (up (wqb I (fw c 1))), k0_pay50 (up (wob I (fw c 1)))⟩)
      -∗ wp frame (wpE (defs₀ (F := F)) 𝒱₀ (c : Thread nD τ) none) Set.univ (atBufs (k0_part13 (F := F)) v2 v91 v286 v365 v369 v372 v375 v387 v388 v389 v390 cst_272) Q) := by
  unfold atBufs
  rw [k0_part13_eq_skeleton]
  unfold k0_part13_skel
  simp only [semSignalWord, semWaitWord, Prog.lift, Prog.bind_op, Prog.bind_ret, Prog.pure_eq_ret, wp_deviceId]
  iintro #HC C1 D1 Hk
  iapply (ld lwq 1 _ c (fullShare : PosShare TreeShare).right (wqb I (fw c 1))) $$ C1
  iintro C1
  iapply (ld lwo 1 _ c (fullShare : PosShare TreeShare).right (wob I (fw c 1))) $$ D1
  iintro D1
  rw [wp_ret]
  imodintro
  ispecialize Hk $$ %_
  iapply Hk
  iframe

/-- Part 14: the heads of the right neighbour's group. -/
theorem run_part14 (v38 : FVec F S256x512 .bf16) (v91 : FVec F S256x256 .f32) (v429 : BitVec 32) (v431 : FVec F S512x256 .bf16) {Q : (Σ' (v437 : FVec F S256x256 .bf16) (v440 : FVec F S256x256 .bf16) (v443 : FVec F S256x256 .bf16) (v455 : FVec F S256x64 .f32) (v467 : FVec F S256x64 .f32) (v477 : FVec F S256x64 .f32), FVec F S256x64 .f32) → sProp 𝕄} :
    ctx I K c ⊢ iprop(kfam I c -∗
        vfam I c -∗
        ((kfam I c ∗ vfam I c) -∗ Q ⟨k0_pay51 v38 v431, k0_pay52 (up (kvs (k0_pay11 (I.k c)) (fw c 1))), k0_pay53 (up (kvs (k0_pay12 (I.v c)) (fw c 1))), k0_pay54 v38 v91 v431 (up (kvs (k0_pay11 (I.k c)) (fw c 1))) (up (kvs (k0_pay12 (I.v c)) (fw c 1))), k0_pay55 v38 v91 v431 (up (kvs (k0_pay11 (I.k c)) (fw c 1))) (up (kvs (k0_pay12 (I.v c)) (fw c 1))), k0_pay57 v38 v91 v431 (up (kvs (k0_pay11 (I.k c)) (fw c 1))) (up (kvs (k0_pay12 (I.v c)) (fw c 1))), k0_pay58 v38 v91 v431 (up (kvs (k0_pay11 (I.k c)) (fw c 1)))⟩)
      -∗ wp frame (wpE (defs₀ (F := F)) 𝒱₀ (c : Thread nD τ) none) Set.univ (atBufs (k0_part14 (F := F)) c v38 v91 v429 v431) Q) := by
  unfold atBufs
  rw [k0_part14_eq_skeleton]
  unfold k0_part14_skel
  simp only [semSignalWord, semWaitWord, Prog.lift, Prog.bind_op, Prog.bind_ret, Prog.pure_eq_ret, wp_deviceId]
  iintro #HC KF VF Hk
  iapply (load_k I c (fw c 1) _ (k0_off3_eq c 0) _) $$ KF
  iintro KF
  iapply (load_v I c (fw c 1) _ (k0_off3_eq c 0) _) $$ VF
  iintro VF
  rw [wp_ret]
  imodintro
  iapply Hk
  iframe

/-- Part 15: the right neighbour's group is added; the query weights of hop two arrive from the left. -/
theorem run_part15 (v4 : BitVec 32) (v91 : FVec F S256x256 .f32) (v427 : FVec F S256x512 .f32) (v433 : FVec F S256x512 .bf16) (v437 : FVec F S256x256 .bf16) (v440 : FVec F S256x256 .bf16) (v443 : FVec F S256x256 .bf16) (v455 : FVec F S256x64 .f32) (v467 : FVec F S256x64 .f32) (v477 : FVec F S256x64 .f32) (v478 : FVec F S256x64 .f32) {Q : (FVec F S256x512 .f32) → sProp 𝕄} :
    ctx I K c ⊢ iprop(owesX c (owesL c [2, 8, 5, 11]) -∗
        wtok 4 c -∗
        ((owesX c (owesL c [2, 8, 5, 11]) ∗ semVal (cell c 4) 0 ∗ slotP (sq4 rwq 2) c fullShare (wqb I (bk c 2))) -∗ Q (k0_pay59 v91 v427 v433 v437 v440 v443 v455 v467 v477 v478))
      -∗ wp frame (wpE (defs₀ (F := F)) 𝒱₀ (c : Thread nD τ) none) Set.univ (atBufs (k0_part15 (F := F)) v4 v91 v427 v433 v437 v440 v443 v455 v467 v477 v478) Q) := by
  unfold atBufs
  rw [k0_part15_eq_skeleton]
  unfold k0_part15_skel
  simp only [semSignalWord, semWaitWord, Prog.lift, Prog.bind_op, Prog.bind_ret, Prog.pure_eq_ret, wp_deviceId]
  iintro #HC HO R1 Hk
  iapply (wt I c K 4 (src := (sq4 rwq 1 lt4_1)) (dst := (sq4 rwq 2 lt4_2)) rfl [2, 8, 5, 11] (by decide) rfl (slotP (sq4 rwq 2 lt4_2) c fullShare (wqb I (bk c 2))) rfl) $$ HC HO R1
  iintro ⟨HO, z4, A2⟩
  rw [wp_ret]
  imodintro
  iapply Hk
  iframe

/-- Part 16: hop two of the query weights is forwarded both ways (transfers 2 and 8); the output weights arrive from the left. -/
theorem run_part16 (v4 : BitVec 32) (v7 : BitVec 32) {Q : (PUnit) → sProp 𝕄} :
    ctx I K c ⊢ iprop(owesX c (owesL c [2, 8, 5, 11]) -∗
        tok 2 c -∗
        rch (fw c 1) 5 -∗
        slotP (sq4 rwq 2) c fullShare (wqb I (bk c 2)) -∗
        slotAny (sq4 rwq 3) (fw c 1) -∗
        wtok 16 c -∗
        tok 8 c -∗
        rch (bk c 1) 17 -∗
        slotAny (sq4 lwq 3) (bk c 1) -∗
        wtok 10 c -∗
        ((owesX c (owesL c [5, 11]) ∗ slotP (sq4 rwq 2) c (fullShare : PosShare TreeShare).right (wqb I (bk c 2)) ∗ wtok 2 c ∗ semVal (cell c 16) 0 ∗ slotP (sq4 lwq 2) c (fullShare : PosShare TreeShare).right (wqb I (fw c 2)) ∗ wtok 14 c ∗ semVal (cell c 10) 0 ∗ slotP (so4 rwo 2) c fullShare (wob I (bk c 2))) -∗ Q ⟨⟩)
      -∗ wp frame (wpE (defs₀ (F := F)) 𝒱₀ (c : Thread nD τ) none) Set.univ (atBufs (k0_part16 (F := F)) c v4 v7) Q) := by
  unfold atBufs
  rw [k0_part16_eq_skeleton]
  unfold k0_part16_skel
  simp only [semSignalWord, semWaitWord, Prog.lift, Prog.bind_op, Prog.bind_ret, Prog.pure_eq_ret, wp_deviceId]
  iintro #HC HO T2 G2 A2 PA3 R7 T8 G8 PC3 R4 Hk
  iapply (snd I c K 2 2 5 [8, 5, 11] (sq4 rwq 2 lt4_2) (sq4 rwq 3 lt4_3) (fw c 1) rfl rfl rfl (dev14_eq c) rfl rfl fullShare (wqb I (bk c 2)) rfl rfl (by rw [← bk_fw3]; rfl)) $$ HC HO T2 G2 A2 PA3
  iintro ⟨HO, S2, A2⟩
  iapply (wt I c K 16 (src := (sq4 lwq 1 lt4_1)) (dst := (sq4 lwq 2 lt4_2)) rfl [8, 5, 11] (by decide) rfl (slotP (sq4 lwq 2 lt4_2) c fullShare (wqb I (fw c 2))) rfl) $$ HC HO R7
  iintro ⟨HO, z16, C2⟩
  iapply (snd I c K 8 14 17 [5, 11] (sq4 lwq 2 lt4_2) (sq4 lwq 3 lt4_3) (bk c 1) rfl rfl rfl (dev15_eq c) rfl rfl fullShare (wqb I (fw c 2)) rfl rfl (by rw [← fw_bk3]; rfl)) $$ HC HO T8 G8 C2 PC3
  iintro ⟨HO, S8, C2⟩
  iapply (wt I c K 10 (src := (so4 rwo 1 lt4_1)) (dst := (so4 rwo 2 lt4_2)) rfl [5, 11] (by decide) rfl (slotP (so4 rwo 2 lt4_2) c fullShare (wob I (bk c 2))) rfl) $$ HC HO R4
  iintro ⟨HO, z10, B2⟩
  rw [wp_ret]
  imodintro
  iapply Hk
  iframe

/-- Part 17: hop two of the output weights is forwarded to the right (transfer 5) and arrives from the right. -/
theorem run_part17 (v4 : BitVec 32) (v7 : BitVec 32) {Q : (PUnit) → sProp 𝕄} :
    ctx I K c ⊢ iprop(owesX c (owesL c [5, 11]) -∗
        tok 5 c -∗
        rch (fw c 1) 11 -∗
        slotP (so4 rwo 2) c fullShare (wob I (bk c 2)) -∗
        slotAny (so4 rwo 3) (fw c 1) -∗
        wtok 22 c -∗
        ((owesX c (owesL c [11]) ∗ slotP (so4 rwo 2) c (fullShare : PosShare TreeShare).right (wob I (bk c 2)) ∗ wtok 8 c ∗ semVal (cell c 22) 0 ∗ slotP (so4 lwo 2) c fullShare (wob I (fw c 2))) -∗ Q ⟨⟩)
      -∗ wp frame (wpE (defs₀ (F := F)) 𝒱₀ (c : Thread nD τ) none) Set.univ (atBufs (k0_part17 (F := F)) c v4 v7) Q) := by
  unfold atBufs
  rw [k0_part17_eq_skeleton]
  unfold k0_part17_skel
  simp only [semSignalWord, semWaitWord, Prog.lift, Prog.bind_op, Prog.bind_ret, Prog.pure_eq_ret, wp_deviceId]
  iintro #HC HO T5 G5 B2 PB3 R10 Hk
  iapply (snd I c K 5 8 11 [11] (so4 rwo 2 lt4_2) (so4 rwo 3 lt4_3) (fw c 1) rfl rfl rfl (dev16_eq c) rfl rfl fullShare (wob I (bk c 2)) rfl rfl (by rw [← bk_fw3]; rfl)) $$ HC HO T5 G5 B2 PB3
  iintro ⟨HO, S5, B2⟩
  iapply (wt I c K 22 (src := (so4 lwo 1 lt4_1)) (dst := (so4 lwo 2 lt4_2)) rfl [11] (by decide) rfl (slotP (so4 lwo 2 lt4_2) c fullShare (wob I (fw c 2))) rfl) $$ HC HO R10
  iintro ⟨HO, z22, D2⟩
  rw [wp_ret]
  imodintro
  iapply Hk
  iframe

/-- Part 18: the last forward (transfer 11); the group of the slice two hops to the left begins. -/
theorem run_part18 (v2 : BitVec 32) (v38 : FVec F S256x512 .bf16) (v91 : FVec F S256x256 .f32) {Q : (Σ' (v574 : FVec F S256x512 .bf16) (v578 : FVec F S256x256 .bf16) (v581 : FVec F S256x256 .bf16) (v584 : FVec F S256x256 .bf16) (v596 : FVec F S256x64 .f32) (v599 : FVec F S256x64 .bf16) (v604 : FVec F S256x1 .f32) (v605 : FVec F S256x256 .bf16), FVec F S256x64 .f32) → sProp 𝕄} :
    ctx I K c ⊢ iprop(owesX c (owesL c [11]) -∗
        tok 11 c -∗
        rch (bk c 1) 23 -∗
        slotP (so4 lwo 2) c fullShare (wob I (fw c 2)) -∗
        slotAny (so4 lwo 3) (bk c 1) -∗
        slotP (sq4 rwq 2) c (fullShare : PosShare TreeShare).right (wqb I (bk c 2)) -∗
        slotP (so4 rwo 2) c (fullShare : PosShare TreeShare).right (wob I (bk c 2)) -∗
        kfam I c -∗
        vfam I c -∗
        ((owesX c (owesL c []) ∗ slotP (so4 lwo 2) c (fullShare : PosShare TreeShare).right (wob I (fw c 2)) ∗ wtok 20 c ∗ slotP (sq4 rwq 2) c (fullShare : PosShare TreeShare).right (wqb I (bk c 2)) ∗ slotP (so4 rwo 2) c (fullShare : PosShare TreeShare).right (wob I (bk c 2)) ∗ kfam I c ∗ vfam I c) -∗ Q ⟨k0_pay60 (up (wob I (bk c 2))), k0_pay61 v38 (up (wqb I (bk c 2))), k0_pay62 (up (kvs (k0_pay11 (I.k c)) (bk c 2))), k0_pay63 (up (kvs (k0_pay12 (I.v c)) (bk c 2))), k0_pay64 v38 v91 (up (wqb I (bk c 2))) (up (kvs (k0_pay11 (I.k c)) (bk c 2))) (up (kvs (k0_pay12 (I.v c)) (bk c 2))), k0_pay65 (up (kvs (k0_pay12 (I.v c)) (bk c 2))), k0_pay67 v38 v91 (up (wqb I (bk c 2))) (up (kvs (k0_pay11 (I.k c)) (bk c 2))), k0_pay68 v38 v91 (up (wqb I (bk c 2))) (up (kvs (k0_pay11 (I.k c)) (bk c 2))), (constant S256x64 .f32 0x00000000#32)⟩)
      -∗ wp frame (wpE (defs₀ (F := F)) 𝒱₀ (c : Thread nD τ) none) Set.univ (atBufs (k0_part18 (F := F)) c v2 v38 v91) Q) := by
  unfold atBufs
  rw [k0_part18_eq_skeleton]
  unfold k0_part18_skel
  simp only [semSignalWord, semWaitWord, Prog.lift, Prog.bind_op, Prog.bind_ret, Prog.pure_eq_ret, wp_deviceId]
  iintro #HC HO T11 G11 D2 PD3 A2 B2 KF VF Hk
  iapply (snd I c K 11 20 23 [] (so4 lwo 2 lt4_2) (so4 lwo 3 lt4_3) (bk c 1) rfl rfl rfl (dev17_eq c) rfl rfl fullShare (wob I (fw c 2)) rfl rfl (by rw [← fw_bk3]; rfl)) $$ HC HO T11 G11 D2 PD3
  iintro ⟨HO, S11, D2⟩
  iapply (ld rwq 2 _ c (fullShare : PosShare TreeShare).right (wqb I (bk c 2))) $$ A2
  iintro A2
  iapply (ld rwo 2 _ c (fullShare : PosShare TreeShare).right (wob I (bk c 2))) $$ B2
  iintro B2
  iapply (load_k I c (bk c 2) _ (k0_off2_eq c 1) _) $$ KF
  iintro KF
  iapply (load_v I c (bk c 2) _ (k0_off2_eq c 1) _) $$ VF
  iintro VF
  rw [wp_ret]
  imodintro
  iapply Hk
  iframe

/-- Part 19: that group is added; the weights two hops to the right are read. -/
theorem run_part19 (v2 : BitVec 32) (v38 : FVec F S256x512 .bf16) (v91 : FVec F S256x256 .f32) (v495 : FVec F S256x512 .f32) (v574 : FVec F S256x512 .bf16) (v578 : FVec F S256x256 .bf16) (v581 : FVec F S256x256 .bf16) (v584 : FVec F S256x256 .bf16) (v596 : FVec F S256x64 .f32) (v599 : FVec F S256x64 .bf16) (v604 : FVec F S256x1 .f32) (v605 : FVec F S256x256 .bf16) (cst_409 : FVec F S256x64 .f32) {Q : (Σ' (v636 : FVec F S256x512 .f32) (v638 : BitVec 32) (v642 : FVec F S256x512 .bf16), FVec F S256x256 .bf16) → sProp 𝕄} :
    ctx I K c ⊢ iprop(slotP (sq4 lwq 2) c (fullShare : PosShare TreeShare).right (wqb I (fw c 2)) -∗
        slotP (so4 lwo 2) c (fullShare : PosShare TreeShare).right (wob I (fw c 2)) -∗
        (∀ v638 : BitVec 32, (slotP (sq4 lwq 2) c (fullShare : PosShare TreeShare).right (wqb I (fw c 2)) ∗ slotP (so4 lwo 2) c (fullShare : PosShare TreeShare).right (wob I (fw c 2))) -∗ Q ⟨k0_pay69 v91 v495 v574 v578 v581 v584 v596 v599 v604 v605 cst_409, v638, k0_pay70 (up (wob I (fw c 2))), k0_pay71 v38 (up (wqb I (fw c 2)))⟩)
      -∗ wp frame (wpE (defs₀ (F := F)) 𝒱₀ (c : Thread nD τ) none) Set.univ (atBufs (k0_part19 (F := F)) v2 v38 v91 v495 v574 v578 v581 v584 v596 v599 v604 v605 cst_409) Q) := by
  unfold atBufs
  rw [k0_part19_eq_skeleton]
  unfold k0_part19_skel
  simp only [semSignalWord, semWaitWord, Prog.lift, Prog.bind_op, Prog.bind_ret, Prog.pure_eq_ret, wp_deviceId]
  iintro #HC C2 D2 Hk
  iapply (ld lwq 2 _ c (fullShare : PosShare TreeShare).right (wqb I (fw c 2))) $$ C2
  iintro C2
  iapply (ld lwo 2 _ c (fullShare : PosShare TreeShare).right (wob I (fw c 2))) $$ D2
  iintro D2
  rw [wp_ret]
  imodintro
  ispecialize Hk $$ %_
  iapply Hk
  iframe

/-- Part 20: the heads of the group two hops to the right. -/
theorem run_part20 (v91 : FVec F S256x256 .f32) (v638 : BitVec 32) (v646 : FVec F S256x256 .bf16) {Q : (Σ' (v664 : FVec F S256x64 .f32) (v676 : FVec F S256x64 .f32) (v688 : FVec F S256x64 .f32) (v691 : FVec F S256x64 .bf16), FVec F S256x256 .f32) → sProp 𝕄} :
    ctx I K c ⊢ iprop(kfam I c -∗
        vfam I c -∗
        ((kfam I c ∗ vfam I c) -∗ Q ⟨k0_pay74 v91 v646 (up (kvs (k0_pay11 (I.k c)) (fw c 2))) (up (kvs (k0_pay12 (I.v c)) (fw c 2))), k0_pay75 v91 v646 (up (kvs (k0_pay11 (I.k c)) (fw c 2))) (up (kvs (k0_pay12 (I.v c)) (fw c 2))), k0_pay76 v91 v646 (up (kvs (k0_pay11 (I.k c)) (fw c 2))) (up (kvs (k0_pay12 (I.v c)) (fw c 2))), k0_pay77 (up (kvs (k0_pay12 (I.v c)) (fw c 2))), k0_pay78 v91 v646 (up (kvs (k0_pay11 (I.k c)) (fw c 2)))⟩)
      -∗ wp frame (wpE (defs₀ (F := F)) 𝒱₀ (c : Thread nD τ) none) Set.univ (atBufs (k0_part20 (F := F)) c v91 v638 v646) Q) := by
  unfold atBufs
  rw [k0_part20_eq_skeleton]
  unfold k0_part20_skel
  simp only [semSignalWord, semWaitWord, Prog.lift, Prog.bind_op, Prog.bind_ret, Prog.pure_eq_ret, wp_deviceId]
  iintro #HC KF VF Hk
  iapply (load_k I c (fw c 2) _ (k0_off3_eq c 1) _) $$ KF
  iintro KF
  iapply (load_v I c (fw c 2) _ (k0_off3_eq c 1) _) $$ VF
  iintro VF
  rw [wp_ret]
  imodintro
  iapply Hk
  iframe

/-- Part 21: that group is added; the query weights of hop three arrive from both sides. -/
theorem run_part21 (v4 : BitVec 32) (v7 : BitVec 32) (v636 : FVec F S256x512 .f32) (v642 : FVec F S256x512 .bf16) (v664 : FVec F S256x64 .f32) (v676 : FVec F S256x64 .f32) (v688 : FVec F S256x64 .f32) (v691 : FVec F S256x64 .bf16) (v694 : FVec F S256x256 .f32) {Q : (FVec F S256x512 .f32) → sProp 𝕄} :
    ctx I K c ⊢ iprop(owesX c (owesL c []) -∗
        wtok 5 c -∗
        wtok 17 c -∗
        ((owesX c (owesL c []) ∗ semVal (cell c 5) 0 ∗ slotP (sq4 rwq 3) c fullShare (wqb I (bk c 3)) ∗ semVal (cell c 17) 0 ∗ slotP (sq4 lwq 3) c fullShare (wqb I (fw c 3))) -∗ Q (k0_pay79 v636 v642 v664 v676 v688 v691 v694))
      -∗ wp frame (wpE (defs₀ (F := F)) 𝒱₀ (c : Thread nD τ) none) Set.univ (atBufs (k0_part21 (F := F)) v4 v7 v636 v642 v664 v676 v688 v691 v694) Q) := by
  unfold atBufs
  rw [k0_part21_eq_skeleton]
  unfold k0_part21_skel
  simp only [semSignalWord, semWaitWord, Prog.lift, Prog.bind_op, Prog.bind_ret, Prog.pure_eq_ret, wp_deviceId]
  iintro #HC HO R2 R8 Hk
  iapply (wt I c K 5 (src := (sq4 rwq 2 lt4_2)) (dst := (sq4 rwq 3 lt4_3)) rfl [] (by decide) rfl (slotP (sq4 rwq 3 lt4_3) c fullShare (wqb I (bk c 3))) rfl) $$ HC HO R2
  iintro ⟨HO, z5, A3⟩
  iapply (wt I c K 17 (src := (sq4 lwq 2 lt4_2)) (dst := (sq4 lwq 3 lt4_3)) rfl [] (by decide) rfl (slotP (sq4 lwq 3 lt4_3) c fullShare (wqb I (fw c 3))) rfl) $$ HC HO R8
  iintro ⟨HO, z17, C3⟩
  rw [wp_ret]
  imodintro
  iapply Hk
  iframe

/-- Part 22: the output weights of hop three arrive; the group three hops to the left begins. -/
theorem run_part22 (v2 : BitVec 32) (v7 : BitVec 32) (v38 : FVec F S256x512 .bf16) {Q : (Σ' (v743 : FVec F S256x512 .bf16) (v747 : FVec F S256x256 .bf16) (v750 : FVec F S256x256 .bf16), Vec F S1x256x256 .bf16) → sProp 𝕄} :
    ctx I K c ⊢ iprop(owesX c (owesL c []) -∗
        wtok 11 c -∗
        wtok 23 c -∗
        slotP (sq4 rwq 3) c fullShare (wqb I (bk c 3)) -∗
        kfam I c -∗
        vfam I c -∗
        ((owesX c (owesL c []) ∗ semVal (cell c 11) 0 ∗ slotP (so4 rwo 3) c fullShare (wob I (bk c 3)) ∗ semVal (cell c 23) 0 ∗ slotP (so4 lwo 3) c fullShare (wob I (fw c 3)) ∗ slotP (sq4 rwq 3) c fullShare (wqb I (bk c 3)) ∗ kfam I c ∗ vfam I c) -∗ Q ⟨k0_pay80 (up (wob I (bk c 3))), k0_pay81 v38 (up (wqb I (bk c 3))), k0_pay82 (up (kvs (k0_pay11 (I.k c)) (bk c 3))), (up (kvs (k0_pay12 (I.v c)) (bk c 3)))⟩)
      -∗ wp frame (wpE (defs₀ (F := F)) 𝒱₀ (c : Thread nD τ) none) Set.univ (atBufs (k0_part22 (F := F)) c v2 v7 v38) Q) := by
  unfold atBufs
  rw [k0_part22_eq_skeleton]
  unfold k0_part22_skel
  simp only [semSignalWord, semWaitWord, Prog.lift, Prog.bind_op, Prog.bind_ret, Prog.pure_eq_ret, wp_deviceId]
  iintro #HC HO R5 R11 A3 KF VF Hk
  iapply (wt I c K 11 (src := (so4 rwo 2 lt4_2)) (dst := (so4 rwo 3 lt4_3)) rfl [] (by decide) rfl (slotP (so4 rwo 3 lt4_3) c fullShare (wob I (bk c 3))) rfl) $$ HC HO R5
  iintro ⟨HO, z11, B3⟩
  iapply (wt I c K 23 (src := (so4 lwo 2 lt4_2)) (dst := (so4 lwo 3 lt4_3)) rfl [] (by decide) rfl (slotP (so4 lwo 3 lt4_3) c fullShare (wob I (fw c 3))) rfl) $$ HC HO R11
  iintro ⟨HO, z23, D3⟩
  iapply (ld rwq 3 _ c fullShare (wqb I (bk c 3))) $$ A3
  iintro A3
  iapply (ld rwo 3 _ c fullShare (wob I (bk c 3))) $$ B3
  iintro B3
  iapply (load_k I c (bk c 3) _ (k0_off2_eq c 2) _) $$ KF
  iintro KF
  iapply (load_v I c (bk c 3) _ (k0_off2_eq c 2) _) $$ VF
  iintro VF
  rw [wp_ret]
  imodintro
  iapply Hk
  iframe

/-- Part 23: the heads of that group. -/
theorem run_part23 (v91 : FVec F S256x256 .f32) (v747 : FVec F S256x256 .bf16) (v750 : FVec F S256x256 .bf16) (v752 : Vec F S1x256x256 .bf16) {Q : (Σ' (v765 : FVec F S256x64 .f32) (v777 : FVec F S256x64 .f32) (v789 : FVec F S256x64 .f32) (v799 : FVec F S256x64 .f32), FVec F S256x64 .f32) → sProp 𝕄} :
    ctx I K c ⊢ iprop(
        (Q ⟨k0_pay84 v91 v747 v750 v752, k0_pay85 v91 v747 v750 v752, k0_pay86 v91 v747 v750 v752, k0_pay88 v91 v747 v750 v752, k0_pay89 v91 v747 v750⟩)
      -∗ wp frame (wpE (defs₀ (F := F)) 𝒱₀ (c : Thread nD τ) none) Set.univ (atBufs (k0_part23 (F := F)) v91 v747 v750 v752) Q) := by
  unfold atBufs
  rw [k0_part23_eq_skeleton]
  unfold k0_part23_skel
  simp only [semSignalWord, semWaitWord, Prog.lift, Prog.bind_op, Prog.bind_ret, Prog.pure_eq_ret, wp_deviceId]
  iintro #HC  Hk

  rw [wp_ret]
  imodintro
  iexact Hk

/-- Part 24: that group is added; the heads of the group three hops to the right. -/
theorem run_part24 (v2 : BitVec 32) (v38 : FVec F S256x512 .bf16) (v91 : FVec F S256x256 .f32) (v704 : FVec F S256x512 .f32) (v743 : FVec F S256x512 .bf16) (v765 : FVec F S256x64 .f32) (v777 : FVec F S256x64 .f32) (v789 : FVec F S256x64 .f32) (v799 : FVec F S256x64 .f32) (v800 : FVec F S256x64 .f32) {Q : (Σ' (v805 : FVec F S256x512 .f32) (v811 : FVec F S256x512 .bf16) (v815 : FVec F S256x256 .bf16) (v818 : FVec F S256x256 .bf16) (v821 : FVec F S256x256 .bf16) (v833 : FVec F S256x64 .f32) (v836 : FVec F S256x64 .bf16) (v839 : FVec F S256x256 .f32), FVec F S256 .f32) → sProp 𝕄} :
    ctx I K c ⊢ iprop(slotP (sq4 lwq 3) c fullShare (wqb I (fw c 3)) -∗
        slotP (so4 lwo 3) c fullShare (wob I (fw c 3)) -∗
        kfam I c -∗
        vfam I c -∗
        ((slotP (sq4 lwq 3) c fullShare (wqb I (fw c 3)) ∗ slotP (so4 lwo 3) c fullShare (wob I (fw c 3)) ∗ kfam I c ∗ vfam I c) -∗ Q ⟨k0_pay90 v704 v743 v765 v777 v789 v799 v800, k0_pay91 (up (wob I (fw c 3))), k0_pay92 v38 (up (wqb I (fw c 3))), k0_pay93 (up (kvs (k0_pay11 (I.k c)) (fw c 3))), k0_pay94 (up (kvs (k0_pay12 (I.v c)) (fw c 3))), k0_pay95 v38 v91 (up (wqb I (fw c 3))) (up (kvs (k0_pay11 (I.k c)) (fw c 3))) (up (kvs (k0_pay12 (I.v c)) (fw c 3))), k0_pay96 (up (kvs (k0_pay12 (I.v c)) (fw c 3))), k0_pay97 v38 v91 (up (wqb I (fw c 3))) (up (kvs (k0_pay11 (I.k c)) (fw c 3))), k0_pay98 v38 v91 (up (wqb I (fw c 3))) (up (kvs (k0_pay11 (I.k c)) (fw c 3)))⟩)
      -∗ wp frame (wpE (defs₀ (F := F)) 𝒱₀ (c : Thread nD τ) none) Set.univ (atBufs (k0_part24 (F := F)) c v2 v38 v91 v704 v743 v765 v777 v789 v799 v800) Q) := by
  unfold atBufs
  rw [k0_part24_eq_skeleton]
  unfold k0_part24_skel
  simp only [semSignalWord, semWaitWord, Prog.lift, Prog.bind_op, Prog.bind_ret, Prog.pure_eq_ret, wp_deviceId]
  iintro #HC C3 D3 KF VF Hk
  iapply (ld lwq 3 _ c fullShare (wqb I (fw c 3))) $$ C3
  iintro C3
  iapply (ld lwo 3 _ c fullShare (wob I (fw c 3))) $$ D3
  iintro D3
  iapply (load_k I c (fw c 3) _ (k0_off3_eq c 2) _) $$ KF
  iintro KF
  iapply (load_v I c (fw c 3) _ (k0_off3_eq c 2) _) $$ VF
  iintro VF
  rw [wp_ret]
  imodintro
  iapply Hk
  iframe

/-- Part 25: that group is added; the opposite device's query weights arrive. -/
theorem run_part25 (v9 : BitVec 32) (v91 : FVec F S256x256 .f32) (v805 : FVec F S256x512 .f32) (v811 : FVec F S256x512 .bf16) (v815 : FVec F S256x256 .bf16) (v818 : FVec F S256x256 .bf16) (v821 : FVec F S256x256 .bf16) (v833 : FVec F S256x64 .f32) (v836 : FVec F S256x64 .bf16) (v839 : FVec F S256x256 .f32) (v840 : FVec F S256 .f32) {Q : (FVec F S256x512 .f32) → sProp 𝕄} :
    ctx I K c ⊢ iprop(owesX c (owesL c []) -∗
        wtok 25 c -∗
        ((owesX c (owesL c []) ∗ semVal (cell c 25) 0 ∗ slotP zq c fullShare (wqb I (fw c 4))) -∗ Q (k0_pay99 v91 v805 v811 v815 v818 v821 v833 v836 v839 v840))
      -∗ wp frame (wpE (defs₀ (F := F)) 𝒱₀ (c : Thread nD τ) none) Set.univ (atBufs (k0_part25 (F := F)) v9 v91 v805 v811 v815 v818 v821 v833 v836 v839 v840) Q) := by
  unfold atBufs
  rw [k0_part25_eq_skeleton]
  unfold k0_part25_skel
  simp only [semSignalWord, semWaitWord, Prog.lift, Prog.bind_op, Prog.bind_ret, Prog.pure_eq_ret, wp_deviceId]
  iintro #HC HO R12 Hk
  iapply (wt I c K 25 (src := (sq4 rwq 0 lt4_0)) (dst := zq) rfl [] (by decide) rfl (slotP zq c fullShare (wqb I (fw c 4))) rfl) $$ HC HO R12
  iintro ⟨HO, z25, Z0⟩
  rw [wp_ret]
  imodintro
  iapply Hk
  iframe

/-- Part 26: the opposite device's output weights arrive; the heads of the last group. -/
theorem run_part26 (v2 : BitVec 32) (v9 : BitVec 32) (v38 : FVec F S256x512 .bf16) (v91 : FVec F S256x256 .f32) {Q : (Σ' (v895 : FVec F S256x512 .bf16) (v899 : FVec F S256x256 .bf16) (v902 : FVec F S256x256 .bf16) (v905 : FVec F S256x256 .bf16) (v908 : FVec F S256x64 .bf16) (v913 : FVec F S256x1 .f32), FVec F S256x256 .bf16) → sProp 𝕄} :
    ctx I K c ⊢ iprop(owesX c (owesL c []) -∗
        wtok 27 c -∗
        slotP zq c fullShare (wqb I (fw c 4)) -∗
        kfam I c -∗
        vfam I c -∗
        ((owesX c (owesL c []) ∗ semVal (cell c 27) 0 ∗ slotP zo c fullShare (wob I (fw c 4)) ∗ slotP zq c fullShare (wqb I (fw c 4)) ∗ kfam I c ∗ vfam I c) -∗ Q ⟨k0_pay100 (up (wob I (fw c 4))), k0_pay101 v38 (up (wqb I (fw c 4))), k0_pay102 (up (kvs (k0_pay11 (I.k c)) (fw c 4))), k0_pay103 (up (kvs (k0_pay12 (I.v c)) (fw c 4))), k0_pay104 (up (kvs (k0_pay12 (I.v c)) (fw c 4))), k0_pay106 v38 v91 (up (wqb I (fw c 4))) (up (kvs (k0_pay11 (I.k c)) (fw c 4))), k0_pay107 v38 v91 (up (wqb I (fw c 4))) (up (kvs (k0_pay11 (I.k c)) (fw c 4)))⟩)
      -∗ wp frame (wpE (defs₀ (F := F)) 𝒱₀ (c : Thread nD τ) none) Set.univ (atBufs (k0_part26 (F := F)) c v2 v9 v38 v91) Q) := by
  unfold atBufs
  rw [k0_part26_eq_skeleton]
  unfold k0_part26_skel
  simp only [semSignalWord, semWaitWord, Prog.lift, Prog.bind_op, Prog.bind_ret, Prog.pure_eq_ret, wp_deviceId]
  iintro #HC HO R13 Z0 KF VF Hk
  iapply (wt I c K 27 (src := (so4 rwo 0 lt4_0)) (dst := zo) rfl [] (by decide) rfl (slotP zo c fullShare (wob I (fw c 4))) rfl) $$ HC HO R13
  iintro ⟨HO, z27, Y0⟩
  iapply (ld zwq 0 _ c fullShare (wqb I (fw c 4))) $$ Z0
  iintro Z0
  iapply (ld zwo 0 _ c fullShare (wob I (fw c 4))) $$ Y0
  iintro Y0
  iapply (load_k I c (fw c 4) _ (k0_off3_eq c 3) _) $$ KF
  iintro KF
  iapply (load_v I c (fw c 4) _ (k0_off3_eq c 3) _) $$ VF
  iintro VF
  rw [wp_ret]
  imodintro
  iapply Hk
  iframe

/-- Part 27: the last group is added and the result is stored in the output window. -/
theorem run_part27 (v91 : FVec F S256x256 .f32) (v873 : FVec F S256x512 .f32) (v895 : FVec F S256x512 .bf16) (v899 : FVec F S256x256 .bf16) (v902 : FVec F S256x256 .bf16) (v905 : FVec F S256x256 .bf16) (v908 : FVec F S256x64 .bf16) (v913 : FVec F S256x1 .f32) (v914 : FVec F S256x256 .bf16) {Q : (PUnit) → sProp 𝕄} :
    ctx I K c ⊢ iprop(slotAny oW c -∗
        ((slotP oW c fullShare (k0_pay108 v91 v873 v895 v899 v902 v905 v908 v913 v914)) -∗ Q ⟨⟩)
      -∗ wp frame (wpE (defs₀ (F := F)) 𝒱₀ (c : Thread nD τ) none) Set.univ (atBufs (k0_part27 (F := F)) v91 v873 v895 v899 v902 v905 v908 v913 v914) Q) := by
  unfold atBufs
  rw [k0_part27_eq_skeleton]
  unfold k0_part27_skel
  simp only [semSignalWord, semWaitWord, Prog.lift, Prog.bind_op, Prog.bind_ret, Prog.pure_eq_ret, wp_deviceId]
  iintro #HC W5 Hk
  iapply (load_whole_any oW c _ _) $$ W5
  iintro %u W5
  iapply (store_whole oW c (k0_pay108 v91 v873 v895 v899 v902 v905 v908 v913 v914) _ zero3 _) $$ W5
  iintro W5
  rw [wp_ret]
  imodintro
  iapply Hk
  iframe

/-- Part 28: the transfers 0, 6 and 3 have left; their sources come back. -/
theorem run_part28 {Q : (PUnit) → sProp 𝕄} :
    ctx I K c ⊢ iprop(owesX c (owesL c []) -∗
        wtok 0 c -∗
        wtok 12 c -∗
        wtok 6 c -∗
        ((owesX c (owesL c []) ∗ semVal (cell c 0) 0 ∗ slotP (sq4 rwq 0) c qh (wqb I (bk c 0)) ∗ semVal (cell c 12) 0 ∗ slotP (sq4 lwq 0) c qh (wqb I (fw c 0)) ∗ semVal (cell c 6) 0 ∗ slotP (so4 rwo 0) c qh (wob I (bk c 0))) -∗ Q ⟨⟩)
      -∗ wp frame (wpE (defs₀ (F := F)) 𝒱₀ (c : Thread nD τ) none) Set.univ (atBufs (k0_part28 (F := F)) ) Q) := by
  unfold atBufs
  rw [k0_part28_eq_skeleton]
  unfold k0_part28_skel
  simp only [semSignalWord, semWaitWord, Prog.lift, Prog.bind_op, Prog.bind_ret, Prog.pure_eq_ret, wp_deviceId]
  iintro #HC HO S0 S6 S3 Hk
  iapply (wt I c K 0 (src := (sq4 rwq 1 lt4_1)) (dst := (sq4 rwq 0 lt4_0)) rfl [] (by decide) rfl (slotP (sq4 rwq 0 lt4_0) c qh (wqb I (bk c 0))) rfl) $$ HC HO S0
  iintro ⟨HO, z0, L0⟩
  iapply (wt I c K 12 (src := (sq4 lwq 1 lt4_1)) (dst := (sq4 lwq 0 lt4_0)) rfl [] (by decide) rfl (slotP (sq4 lwq 0 lt4_0) c qh (wqb I (fw c 0))) rfl) $$ HC HO S6
  iintro ⟨HO, z12, L6⟩
  iapply (wt I c K 6 (src := (so4 rwo 1 lt4_1)) (dst := (so4 rwo 0 lt4_0)) rfl [] (by decide) rfl (slotP (so4 rwo 0 lt4_0) c qh (wob I (bk c 0))) rfl) $$ HC HO S3
  iintro ⟨HO, z6, L3⟩
  rw [wp_ret]
  imodintro
  iapply Hk
  iframe

/-- Part 29: the transfers 9, 1, 7 and 4 have left; their sources come back. -/
theorem run_part29 {Q : (PUnit) → sProp 𝕄} :
    ctx I K c ⊢ iprop(owesX c (owesL c []) -∗
        wtok 18 c -∗
        wtok 1 c -∗
        wtok 13 c -∗
        wtok 7 c -∗
        ((owesX c (owesL c []) ∗ semVal (cell c 18) 0 ∗ slotP (so4 lwo 0) c qh (wob I (fw c 0)) ∗ semVal (cell c 1) 0 ∗ slotP (sq4 rwq 1) c qh (wqb I (bk c 1)) ∗ semVal (cell c 13) 0 ∗ slotP (sq4 lwq 1) c qh (wqb I (fw c 1)) ∗ semVal (cell c 7) 0 ∗ slotP (so4 rwo 1) c qh (wob I (bk c 1))) -∗ Q ⟨⟩)
      -∗ wp frame (wpE (defs₀ (F := F)) 𝒱₀ (c : Thread nD τ) none) Set.univ (atBufs (k0_part29 (F := F)) ) Q) := by
  unfold atBufs
  rw [k0_part29_eq_skeleton]
  unfold k0_part29_skel
  simp only [semSignalWord, semWaitWord, Prog.lift, Prog.bind_op, Prog.bind_ret, Prog.pure_eq_ret, wp_deviceId]
  iintro #HC HO S9 S1 S7 S4 Hk
  iapply (wt I c K 18 (src := (so4 lwo 1 lt4_1)) (dst := (so4 lwo 0 lt4_0)) rfl [] (by decide) rfl (slotP (so4 lwo 0 lt4_0) c qh (wob I (fw c 0))) rfl) $$ HC HO S9
  iintro ⟨HO, z18, L9⟩
  iapply (wt I c K 1 (src := (sq4 rwq 2 lt4_2)) (dst := (sq4 rwq 1 lt4_1)) rfl [] (by decide) rfl (slotP (sq4 rwq 1 lt4_1) c qh (wqb I (bk c 1))) rfl) $$ HC HO S1
  iintro ⟨HO, z1, L1⟩
  iapply (wt I c K 13 (src := (sq4 lwq 2 lt4_2)) (dst := (sq4 lwq 1 lt4_1)) rfl [] (by decide) rfl (slotP (sq4 lwq 1 lt4_1) c qh (wqb I (fw c 1))) rfl) $$ HC HO S7
  iintro ⟨HO, z13, L7⟩
  iapply (wt I c K 7 (src := (so4 rwo 2 lt4_2)) (dst := (so4 rwo 1 lt4_1)) rfl [] (by decide) rfl (slotP (so4 rwo 1 lt4_1) c qh (wob I (bk c 1))) rfl) $$ HC HO S4
  iintro ⟨HO, z7, L4⟩
  rw [wp_ret]
  imodintro
  iapply Hk
  iframe

/-- Part 30: the transfers 10, 2, 8 and 5 have left; their sources come back. -/
theorem run_part30 {Q : (PUnit) → sProp 𝕄} :
    ctx I K c ⊢ iprop(owesX c (owesL c []) -∗
        wtok 19 c -∗
        wtok 2 c -∗
        wtok 14 c -∗
        wtok 8 c -∗
        ((owesX c (owesL c []) ∗ semVal (cell c 19) 0 ∗ slotP (so4 lwo 1) c qh (wob I (fw c 1)) ∗ semVal (cell c 2) 0 ∗ slotP (sq4 rwq 2) c qh (wqb I (bk c 2)) ∗ semVal (cell c 14) 0 ∗ slotP (sq4 lwq 2) c qh (wqb I (fw c 2)) ∗ semVal (cell c 8) 0 ∗ slotP (so4 rwo 2) c qh (wob I (bk c 2))) -∗ Q ⟨⟩)
      -∗ wp frame (wpE (defs₀ (F := F)) 𝒱₀ (c : Thread nD τ) none) Set.univ (atBufs (k0_part30 (F := F)) ) Q) := by
  unfold atBufs
  rw [k0_part30_eq_skeleton]
  unfold k0_part30_skel
  simp only [semSignalWord, semWaitWord, Prog.lift, Prog.bind_op, Prog.bind_ret, Prog.pure_eq_ret, wp_deviceId]
  iintro #HC HO S10 S2 S8 S5 Hk
  iapply (wt I c K 19 (src := (so4 lwo 2 lt4_2)) (dst := (so4 lwo 1 lt4_1)) rfl [] (by decide) rfl (slotP (so4 lwo 1 lt4_1) c qh (wob I (fw c 1))) rfl) $$ HC HO S10
  iintro ⟨HO, z19, L10⟩
  iapply (wt I c K 2 (src := (sq4 rwq 3 lt4_3)) (dst := (sq4 rwq 2 lt4_2)) rfl [] (by decide) rfl (slotP (sq4 rwq 2 lt4_2) c qh (wqb I (bk c 2))) rfl) $$ HC HO S2
  iintro ⟨HO, z2, L2⟩
  iapply (wt I c K 14 (src := (sq4 lwq 3 lt4_3)) (dst := (sq4 lwq 2 lt4_2)) rfl [] (by decide) rfl (slotP (sq4 lwq 2 lt4_2) c qh (wqb I (fw c 2))) rfl) $$ HC HO S8
  iintro ⟨HO, z14, L8⟩
  iapply (wt I c K 8 (src := (so4 rwo 3 lt4_3)) (dst := (so4 rwo 2 lt4_2)) rfl [] (by decide) rfl (slotP (so4 rwo 2 lt4_2) c qh (wob I (bk c 2))) rfl) $$ HC HO S5
  iintro ⟨HO, z8, L5⟩
  rw [wp_ret]
  imodintro
  iapply Hk
  iframe

end Cert.Proof
-- ==== Proof.Out.lean ====
/-
  What the kernel computes, as one expression: eight groups of attention heads added up in the
  order in which the slices of the weights reach the device.
-/
module

public import proofs.«01_k».proof.Proof.Parts

@[expose] public section

noncomputable section

namespace Cert.Proof

open Cert.KernelIdeal Cert.KernelIdeal.Gen
open Idealize.ShloMosaic

variable {F : FTy → Type} [FloatOps F]

/-- The weights of one head's rows: the exponentials of the query-key products, times the mask. -/
def weights (M : FVec F S256x256 .f32) (q k : FVec F S256x64 .bf16) : FVec F S256x256 .f32 :=
  mulf (exp (matmul dot_S256x64_S256x64_S256x256_1_1_0_0_n_n none q k (constant S256x256 .f32 0x00000000#32))) M

/-- One head: the weighted values over the sum of the weights of the row. -/
def head (M : FVec F S256x256 .f32) (q k v : FVec F S256x64 .bf16) : FVec F S256x64 .f32 :=
  divf (matmul dot_S256x256_S256x64_S256x64_1_0_0_1_n_n none (truncf .bf16 (weights M q k) bitsLt_bf16_f32) v
      (constant S256x64 .f32 0x00000000#32))
    (broadcastTo S256x64 (shapeCast S256x1
      (multiReduction .add [1] S256 (weights M q k) 0x00000000#32 reduces_S256x256_S256 (.inl rfl) rfl)))

/-- The queries of one slice of the query weights, scaled by one eighth. -/
def queries (xb : FVec F S256x512 .bf16) (wq : FVec F S512x256 .bf16) : FVec F S256x256 .bf16 :=
  truncf .bf16 (mulf (matmul dot_S256x512_S512x256_S256x256_1_0_0_1_n_n none xb wq (constant S256x256 .f32 0x00000000#32))
    (broadcast S256x256 (Scalar.ofBits .f32 0x3E000000#32))) bitsLt_bf16_f32

/-- The four heads of a group side by side. -/
def heads (M : FVec F S256x256 .f32) (q k v : FVec F S256x256 .bf16) : FVec F S256x256 .f32 :=
  concatenate S256x256 1
    [⟨S256x64, head M (extractStridedSlice S256x64 ![0, 0] q slices_S256x256_o0_0_S256x64)
        (extractStridedSlice S256x64 ![0, 0] k slices_S256x256_o0_0_S256x64)
        (extractStridedSlice S256x64 ![0, 0] v slices_S256x256_o0_0_S256x64)⟩,
      ⟨S256x64, head M (extractStridedSlice S256x64 ![0, 64] q slices_S256x256_o0_64_S256x64)
        (extractStridedSlice S256x64 ![0, 64] k slices_S256x256_o0_64_S256x64)
        (extractStridedSlice S256x64 ![0, 64] v slices_S256x256_o0_64_S256x64)⟩,
      ⟨S256x64, head M (extractStridedSlice S256x64 ![0, 128] q slices_S256x256_o0_128_S256x64)
        (extractStridedSlice S256x64 ![0, 128] k slices_S256x256_o0_128_S256x64)
        (extractStridedSlice S256x64 ![0, 128] v slices_S256x256_o0_128_S256x64)⟩,
      ⟨S256x64, head M (extractStridedSlice S256x64 ![0, 192] q slices_S256x256_o0_192_S256x64)
        (extractStridedSlice S256x64 ![0, 192] k slices_S256x256_o0_192_S256x64)
        (extractStridedSlice S256x64 ![0, 192] v slices_S256x256_o0_192_S256x64)⟩]
    concatenates_S256x64_S256x64_S256x64_S256x64_S256x256_d1

/-- One group added to the accumulator: the heads of one slice of the weights, through the slice of
    the output weights.  The four slices come as the slots they are read from. -/
def grp (M : FVec F S256x256 .f32) (xb : FVec F S256x512 .bf16) (acc : FVec F S256x512 .f32)
    (wq : Vec F S1x512x256 .bf16) (wo : Vec F S1x256x512 .bf16) (k v : Vec F S1x256x256 .bf16) : FVec F S256x512 .f32 :=
  addf acc (matmul dot_S256x256_S256x512_S256x512_1_0_0_1_n_n none
    (truncf .bf16 (heads M (queries xb (shapeCast S512x256 wq)) (shapeCast S256x256 k) (shapeCast S256x256 v)) bitsLt_bf16_f32)
    (shapeCast S256x512 wo) (constant S256x512 .f32 0x00000000#32))

section Groups

variable (M : FVec F S256x256 .f32) (xb : FVec F S256x512 .bf16) (acc : FVec F S256x512 .f32)
  (wq : Vec F S1x512x256 .bf16) (wo : Vec F S1x256x512 .bf16) (k v : Vec F S1x256x256 .bf16)

/-- The program's text for the own group is that group. -/
theorem group_1 :
    k0_pay39 M acc (k0_pay31 wo) (k0_pay32 xb wq) (k0_pay33 k) (k0_pay34 v) (k0_pay35 xb M wq k v) (k0_pay36
      xb M wq k v) (k0_pay37 v) (k0_pay38 xb wq k)
      = grp M xb acc wq wo k v := rfl

/-- The program's text for the first left group is that group. -/
theorem group_2 :
    k0_pay48 M acc (k0_pay40 wo) (k0_pay41 xb wq) (k0_pay42 k) (k0_pay43 v) (k0_pay44 xb M wq k v) (k0_pay45
      xb wq) (k0_pay46 k) (k0_pay47 v) (constant S256x256 .f32 0x00000000#32)
      = grp M xb acc wq wo k v := rfl

/-- The program's text for the first right group is that group. -/
theorem group_3 :
    k0_pay59 M acc (k0_pay50 wo) (k0_pay51 xb (k0_pay49 wq)) (k0_pay52 k) (k0_pay53 v) (k0_pay54 xb M
      (k0_pay49 wq) k v) (k0_pay55 xb M (k0_pay49 wq) k v) (k0_pay57 xb M (k0_pay49 wq) k v) (k0_pay58 xb
      M (k0_pay49 wq) k)
      = grp M xb acc wq wo k v := rfl

/-- The program's text for the second left group is that group. -/
theorem group_4 :
    k0_pay69 M acc (k0_pay60 wo) (k0_pay61 xb wq) (k0_pay62 k) (k0_pay63 v) (k0_pay64 xb M wq k v) (k0_pay65
      v) (k0_pay67 xb M wq k) (k0_pay68 xb M wq k) (constant S256x64 .f32 0x00000000#32)
      = grp M xb acc wq wo k v := rfl

/-- The program's text for the second right group is that group. -/
theorem group_5 :
    k0_pay79 acc (k0_pay70 wo) (k0_pay74 M (k0_pay71 xb wq) k v) (k0_pay75 M (k0_pay71 xb wq) k v) (k0_pay76 M
      (k0_pay71 xb wq) k v) (k0_pay77 v) (k0_pay78 M (k0_pay71 xb wq) k)
      = grp M xb acc wq wo k v := rfl

/-- The program's text for the third left group is that group. -/
theorem group_6 :
    k0_pay90 acc (k0_pay80 wo) (k0_pay84 M (k0_pay81 xb wq) (k0_pay82 k) v) (k0_pay85 M (k0_pay81 xb wq)
      (k0_pay82 k) v) (k0_pay86 M (k0_pay81 xb wq) (k0_pay82 k) v) (k0_pay88 M (k0_pay81 xb wq) (k0_pay82
      k) v) (k0_pay89 M (k0_pay81 xb wq) (k0_pay82 k))
      = grp M xb acc wq wo k v := rfl

/-- The program's text for the third right group is that group. -/
theorem group_7 :
    k0_pay99 M acc (k0_pay91 wo) (k0_pay92 xb wq) (k0_pay93 k) (k0_pay94 v) (k0_pay95 xb M wq k v) (k0_pay96
      v) (k0_pay97 xb M wq k) (k0_pay98 xb M wq k)
      = grp M xb acc wq wo k v := rfl

/-- The program's text for the opposite group is that group stored as the result. -/
theorem group_8 :
    k0_pay108 M acc (k0_pay100 wo) (k0_pay101 xb wq) (k0_pay102 k) (k0_pay103 v) (k0_pay104 v) (k0_pay106 xb M
      wq k) (k0_pay107 xb M wq k)
      = shapeCast S2x128x512 (grp M xb acc wq wo k v) := rfl

end Groups

/-- The mask of the rows of the same batch entry. -/
abbrev maskV : FVec F S256x256 .f32 := k0_pay9 k0_pay8 (iota .tc S256x256 32 [1] iota_S256x256_d1_w32)

/-- The group of device d's slice of the weights on device c. -/
abbrev grpOf (I : Ins F) (c d : Dev nD) (acc : FVec F S256x512 .f32) : FVec F S256x512 .f32 :=
  grp maskV (k0_pay7 (I.x c)) acc (up (wqb I d)) (up (wob I d))
    (up (kvs (k0_pay11 (I.k c)) d)) (up (kvs (k0_pay12 (I.v c)) d))

/-- What device c stores in its output window. -/
def outV (I : Ins F) (c : Dev nD) : FVec F S2x128x512 .f32 :=
  shapeCast S2x128x512 (grpOf I c (fw c 4) (grpOf I c (fw c 3) (grpOf I c (bk c 3) (grpOf I c (fw c 2)
    (grpOf I c (bk c 2) (grpOf I c (fw c 1) (grpOf I c (bk c 1) (grpOf I c c k0_pay10))))))))

end Cert.Proof
-- ==== Proof.Body.lean ====
/-
  The kernel body run from its first part to its last wait: what device c needs at the start, and
  what it holds at the end.
-/
module

public import proofs.«01_k».proof.Proof.Out

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD) (K : GSem nD τ sig → ℕ)

/-! ## Slots handed out and put together -/

theorem barR_eq (p : Dev nD) : (barR p : sProp 𝕄) = iprop(slotAny (sq4 rwq 1) p ∗ slotAny (sq4 rwq 2) p ∗ slotAny (sq4 rwq 3) p
    ∗ slotAny (so4 rwo 1) p ∗ slotAny (so4 rwo 2) p ∗ slotAny (so4 rwo 3) p
    ∗ rch p 3 ∗ rch p 4 ∗ rch p 5 ∗ rch p 9 ∗ rch p 10 ∗ rch p 11) := rfl
theorem barL_eq (p : Dev nD) : (barL p : sProp 𝕄) = iprop(slotAny (sq4 lwq 1) p ∗ slotAny (sq4 lwq 2) p ∗ slotAny (sq4 lwq 3) p
    ∗ slotAny (so4 lwo 1) p ∗ slotAny (so4 lwo 2) p ∗ slotAny (so4 lwo 3) p
    ∗ rch p 15 ∗ rch p 16 ∗ rch p 17 ∗ rch p 21 ∗ rch p 22 ∗ rch p 23) := rfl
theorem barA_eq (p : Dev nD) : (barA p : sProp 𝕄) = iprop(slotAny zq p ∗ slotAny zo p ∗ rch p 25 ∗ rch p 27) := rfl

theorem own_wq_bk : (slotP (sq4 rwq 0) c fullShare (k0_pay1 (I.wq c)) : sProp 𝕄) = slotP (sq4 rwq 0) c fullShare (wqb I (bk c 0)) := by
  rw [bk_zero]; rfl
theorem own_wo_bk : (slotP (so4 rwo 0) c fullShare (k0_pay2 (I.wo c)) : sProp 𝕄) = slotP (so4 rwo 0) c fullShare (wob I (bk c 0)) := by
  rw [bk_zero]; rfl
theorem own_wq_fw : (slotP (sq4 lwq 0) c fullShare (k0_pay1 (I.wq c)) : sProp 𝕄) = slotP (sq4 lwq 0) c fullShare (wqb I (fw c 0)) := by
  rw [fw_zero]; rfl
theorem own_wo_fw : (slotP (so4 lwo 0) c fullShare (k0_pay2 (I.wo c)) : sProp 𝕄) = slotP (so4 lwo 0) c fullShare (wob I (fw c 0)) := by
  rw [fw_zero]; rfl

section Families

variable {a b : ℕ} {e : EltTy}

/-- A family of four slots, one by one. -/
theorem four_of_any (M : Memref sig .tc .vmem (⟨3, ![4, a, b]⟩ : Shape) e) :
    (slotAny M c : sProp 𝕄) ⊢ iprop(slotAny (slot M 0 lt4_0) c ∗ slotAny (slot M 1 lt4_1) c ∗ slotAny (slot M 2 lt4_2) c ∗ slotAny (slot M 3 lt4_3) c) := by
  refine (slots_of_any M c).trans (Entails.of_eq ?_)
  rw [bigSep_univ_eq_bigSepL [0, 1, 2, 3] (by decide) (by decide)]
  rfl

/-- Four slots, put together. -/
theorem any_of_four (M : Memref sig .tc .vmem (⟨3, ![4, a, b]⟩ : Shape) e) :
    iprop(slotAny (slot M 0 lt4_0) c ∗ slotAny (slot M 1 lt4_1) c ∗ slotAny (slot M 2 lt4_2) c ∗ slotAny (slot M 3 lt4_3) c) ⊢ (slotAny M c : sProp 𝕄) := by
  have key : ∀ f₀ : Buf (Elt F) (M.view.loc (c : Thread nD τ)),
      iprop(slotAny (slot M 0 lt4_0) c ∗ slotAny (slot M 1 lt4_1) c ∗ slotAny (slot M 2 lt4_2) c ∗ slotAny (slot M 3 lt4_3) c) ⊢ (slotAny M c : sProp 𝕄) := fun f₀ => by
    refine (Entails.of_eq ?_).trans (any_of_slots M c f₀)
    rw [bigSep_univ_eq_bigSepL [0, 1, 2, 3] (by decide) (by decide)]
    rfl
  iintro ⟨H0, H⟩
  ihave H0 := (Entails.of_eq (show (slotAny (slot M 0 lt4_0) c : sProp 𝕄) = iprop(∃ f : Buf (Elt F) (M.view.loc (c : Thread nD τ)),
    (M.view.loc (c : Thread nD τ) ↦[(slot M 0 lt4_0).view.set]{fullShare} f)) from rfl)) $$ H0
  icases H0 with ⟨%f, H0⟩
  iapply (key f)
  isplitl [H0]; · unfold slotAny; iexists f; iexact H0
  iexact H

/-- One slot is its whole buffer. -/
theorem one_of_any (M : Memref sig .tc .vmem (⟨3, ![1, a, b]⟩ : Shape) e) (h : 0 < 1) :
    (slotAny M c : sProp 𝕄) ⊢ slotAny (slot M 0 h) c := by
  refine (slots_of_any M c).trans (Entails.of_eq ?_)
  rw [bigSep_univ_eq_bigSepL [0] (by decide) (by decide)]
  rfl
theorem any_of_one (M : Memref sig .tc .vmem (⟨3, ![1, a, b]⟩ : Shape) e) (h : 0 < 1) :
    (slotAny (slot M 0 h) c : sProp 𝕄) ⊢ slotAny M c := by
  have key : ∀ f₀ : Buf (Elt F) (M.view.loc (c : Thread nD τ)), (slotAny (slot M 0 h) c : sProp 𝕄) ⊢ slotAny M c := fun f₀ => by
    refine (Entails.of_eq ?_).trans (any_of_slots M c f₀)
    rw [bigSep_univ_eq_bigSepL [0] (by decide) (by decide)]
    rfl
  iintro H0
  ihave H0 := (Entails.of_eq (show (slotAny (slot M 0 h) c : sProp 𝕄) = iprop(∃ f : Buf (Elt F) (M.view.loc (c : Thread nD τ)),
    (M.view.loc (c : Thread nD τ) ↦[(slot M 0 h).view.set]{fullShare} f)) from rfl)) $$ H0
  icases H0 with ⟨%f, H0⟩
  iapply (key f)
  unfold slotAny; iexists f; iexact H0

end Families

section Back

variable {s : Shape} {e : EltTy}

/-- A slot whose share was lent once comes back whole. -/
theorem back2 (M : Memref sig .tc .vmem s e) (w w' : s.Idx → Elt F e) :
    iprop(slotP M c qh w ∗ slotP M c (fullShare : PosShare TreeShare).right w') ⊢ (slotAny M c : sProp 𝕄) :=
  (slotP_join M c fullShare w w').trans (slotP_any M c w)
/-- A slot whose share was lent twice comes back whole. -/
theorem back3 (M : Memref sig .tc .vmem s e) (w w' w'' : s.Idx → Elt F e) :
    iprop(slotP M c qh w ∗ slotP M c qz w' ∗ slotP M c (fullShare : PosShare TreeShare).right.right w'') ⊢ (slotAny M c : sProp 𝕄) := by
  iintro ⟨H0, H⟩
  iapply (back2 c M w w')
  isplitl [H0]; · iexact H0
  iapply (slotP_join M c (fullShare : PosShare TreeShare).right w' w''); iexact H

end Back

theorem kfam_list : (kfam I c : sProp 𝕄) = iprop(slotP (slot kgM 0 (by decide)) c fullShare (kvs (k0_pay11 (I.k c)) 0) ∗ slotP (slot kgM 1 (by decide)) c fullShare (kvs (k0_pay11 (I.k c)) 1)
    ∗ slotP (slot kgM 2 (by decide)) c fullShare (kvs (k0_pay11 (I.k c)) 2) ∗ slotP (slot kgM 3 (by decide)) c fullShare (kvs (k0_pay11 (I.k c)) 3)
    ∗ slotP (slot kgM 4 (by decide)) c fullShare (kvs (k0_pay11 (I.k c)) 4) ∗ slotP (slot kgM 5 (by decide)) c fullShare (kvs (k0_pay11 (I.k c)) 5)
    ∗ slotP (slot kgM 6 (by decide)) c fullShare (kvs (k0_pay11 (I.k c)) 6) ∗ slotP (slot kgM 7 (by decide)) c fullShare (kvs (k0_pay11 (I.k c)) 7)) :=
  bigSep_univ_eq_bigSepL [0, 1, 2, 3, 4, 5, 6, 7] (by decide) (by decide) _
/-- The eight key slots, filled. -/
theorem kfam_intro : (slotP (slot kgM 0 (by decide)) c fullShare (kvs (k0_pay11 (I.k c)) 0) : sProp 𝕄)
    ⊢ iprop(slotP (slot kgM 1 (by decide)) c fullShare (kvs (k0_pay11 (I.k c)) 1) -∗ slotP (slot kgM 2 (by decide)) c fullShare (kvs (k0_pay11 (I.k c)) 2)
    -∗ slotP (slot kgM 3 (by decide)) c fullShare (kvs (k0_pay11 (I.k c)) 3) -∗ slotP (slot kgM 4 (by decide)) c fullShare (k0_pay22 (k0_pay11 (I.k c)))
    -∗ slotP (slot kgM 5 (by decide)) c fullShare (kvs (k0_pay11 (I.k c)) 5) -∗ slotP (slot kgM 6 (by decide)) c fullShare (kvs (k0_pay11 (I.k c)) 6)
    -∗ slotP (slot kgM 7 (by decide)) c fullShare (kvs (k0_pay11 (I.k c)) 7) -∗ kfam I c) := by
  rw [kfam_list]
  iintro H0 H1 H2 H3 H4 H5 H6 H7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
theorem vfam_list : (vfam I c : sProp 𝕄) = iprop(slotP (slot vgM 0 (by decide)) c fullShare (kvs (k0_pay12 (I.v c)) 0) ∗ slotP (slot vgM 1 (by decide)) c fullShare (kvs (k0_pay12 (I.v c)) 1)
    ∗ slotP (slot vgM 2 (by decide)) c fullShare (kvs (k0_pay12 (I.v c)) 2) ∗ slotP (slot vgM 3 (by decide)) c fullShare (kvs (k0_pay12 (I.v c)) 3)
    ∗ slotP (slot vgM 4 (by decide)) c fullShare (kvs (k0_pay12 (I.v c)) 4) ∗ slotP (slot vgM 5 (by decide)) c fullShare (kvs (k0_pay12 (I.v c)) 5)
    ∗ slotP (slot vgM 6 (by decide)) c fullShare (kvs (k0_pay12 (I.v c)) 6) ∗ slotP (slot vgM 7 (by decide)) c fullShare (kvs (k0_pay12 (I.v c)) 7)) :=
  bigSep_univ_eq_bigSepL [0, 1, 2, 3, 4, 5, 6, 7] (by decide) (by decide) _
/-- The eight value slots, filled. -/
theorem vfam_intro : (slotP (slot vgM 0 (by decide)) c fullShare (k0_pay14 (I.v c)) : sProp 𝕄)
    ⊢ iprop(slotP (slot vgM 1 (by decide)) c fullShare (kvs (k0_pay12 (I.v c)) 1) -∗ slotP (slot vgM 2 (by decide)) c fullShare (kvs (k0_pay12 (I.v c)) 2)
    -∗ slotP (slot vgM 3 (by decide)) c fullShare (kvs (k0_pay12 (I.v c)) 3) -∗ slotP (slot vgM 4 (by decide)) c fullShare (kvs (k0_pay12 (I.v c)) 4)
    -∗ slotP (slot vgM 5 (by decide)) c fullShare (kvs (k0_pay12 (I.v c)) 5) -∗ slotP (slot vgM 6 (by decide)) c fullShare (kvs (k0_pay12 (I.v c)) 6)
    -∗ slotP (slot vgM 7 (by decide)) c fullShare (kvs (k0_pay12 (I.v c)) 7) -∗ vfam I c) := by
  rw [vfam_list]
  iintro H0 H1 H2 H3 H4 H5 H6 H7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The eight key slots as one buffer, and the eight value slots. -/
theorem kfam_any : (kfam I c : sProp 𝕄) ⊢ slotAny kgM c := by
  unfold kfam
  exact (bigSep_mono fun j _ => slotP_any (slot kgM j.val j.isLt) c (kvs (k0_pay11 (I.k c)) j)).trans
    (any_of_slots kgM c (fun _ => FloatOps.ofBits .bf16 0))
theorem vfam_any : (vfam I c : sProp 𝕄) ⊢ slotAny vgM c := by
  unfold vfam
  exact (bigSep_mono fun j _ => slotP_any (slot vgM j.val j.isLt) c (kvs (k0_pay12 (I.v c)) j)).trans
    (any_of_slots vgM c (fun _ => FloatOps.ofBits .bf16 0))

/-- Eight slots of a buffer, one by one. -/
theorem eight_of_any (M : Memref sig .tc .vmem S8x256x256 .bf16) :
    (slotAny M c : sProp 𝕄) ⊢ iprop(slotAny (slot M 0 (by decide)) c ∗ slotAny (slot M 1 (by decide)) c ∗ slotAny (slot M 2 (by decide)) c
      ∗ slotAny (slot M 3 (by decide)) c ∗ slotAny (slot M 4 (by decide)) c ∗ slotAny (slot M 5 (by decide)) c
      ∗ slotAny (slot M 6 (by decide)) c ∗ slotAny (slot M 7 (by decide)) c) := by
  refine (slots_of_any M c).trans (Entails.of_eq ?_)
  rw [bigSep_univ_eq_bigSepL [0, 1, 2, 3, 4, 5, 6, 7] (by decide) (by decide)]
  rfl

/-! ## The body's contract -/

/-- The scratch buffers, each whole at some contents. -/
def scratch (c : Dev nD) : sProp 𝕄 :=
  iprop(slotAny rwq c ∗ slotAny rwo c ∗ slotAny lwq c ∗ slotAny lwo c ∗ slotAny zwq c ∗ slotAny zwo c ∗ slotAny kgM c ∗ slotAny vgM c)

/-- The input windows, at what the device holds of each argument. -/
def windows (I : Ins F) (c : Dev nD) : sProp 𝕄 :=
  iprop(slotP xW c fullShare (I.x c) ∗ slotP wqW c fullShare (I.wq c) ∗ slotP kW c fullShare (I.k c) ∗ slotP vW c fullShare (I.v c)
    ∗ slotP woW c fullShare (I.wo c))

/-- What the barrier needs: the three duties the device pays, and its own wait. -/
def barToks (c : Dev nD) : sProp 𝕄 :=
  iprop(dutyTok ER (barCell (bk c 1)) 0 0 ∗ reached ER (barCell (bk c 1)) 0
    ∗ dutyTok ER (barCell (fw c 1)) 0 1 ∗ reached ER (barCell (fw c 1)) 0
    ∗ dutyTok ER (barCell (fw c 4)) 0 2 ∗ reached ER (barCell (fw c 4)) 0
    ∗ cred (tallyAt (barCell c) () 3) ∗ atPos ER (barCell c) 0 ∅ 0)

/-- What device c starts the body with. -/
def bodyPre (I : Ins F) (c : Dev nD) : sProp 𝕄 :=
  iprop(owesX c (O₀ c) ∗ barToks c ∗ bigSep Finset.univ (fun t : Fin 14 => tok t c)
    ∗ bigSep Finset.univ (fun t : Fin 14 => wtok (kR t) c) ∗ scratch c ∗ windows I c ∗ slotAny oW c)

/-- What device c ends the body with: nothing owed, every counter at zero, and the result in the output window. -/
def bodyPost (I : Ins F) (c : Dev nD) : sProp 𝕄 :=
  iprop(owesX c 0 ∗ semVal (barCell c) 0 ∗ bigSep Finset.univ (fun k : Fin 28 => semVal (cell c k) 0)
    ∗ scratch c ∗ windows I c ∗ slotP oW c fullShare (outV I c))

/-- The slots the partners write, handed over with the knowledge that their receive cells are open; the four first slots
    of the ring families are kept. -/
theorem hand_over : ctx I K c ⊢ iprop(slotAny rwq c -∗ slotAny rwo c -∗ slotAny lwq c -∗ slotAny lwo c -∗ slotAny zwq c -∗ slotAny zwo c
    -∗ (barR c ∗ barL c ∗ barA c ∗ slotAny (sq4 rwq 0) c ∗ slotAny (so4 rwo 0) c ∗ slotAny (sq4 lwq 0) c ∗ slotAny (so4 lwo 0) c)) := by
  iintro #HC A B C D Z Y
  ihave A := (four_of_any c rwq) $$ A
  ihave B := (four_of_any c rwo) $$ B
  ihave C := (four_of_any c lwq) $$ C
  ihave D := (four_of_any c lwo) $$ D
  ihave Z := (one_of_any c zwq (by decide)) $$ Z
  ihave Y := (one_of_any c zwo (by decide)) $$ Y
  icases A with ⟨A0, A1, A2, A3⟩
  icases B with ⟨B0, B1, B2, B3⟩
  icases C with ⟨C0, C1, C2, C3⟩
  icases D with ⟨D0, D1, D2, D3⟩
  ihave #G3 := (ctx_rch I K c 3) $$ HC
  ihave #G4 := (ctx_rch I K c 4) $$ HC
  ihave #G5 := (ctx_rch I K c 5) $$ HC
  ihave #G9 := (ctx_rch I K c 9) $$ HC
  ihave #G10 := (ctx_rch I K c 10) $$ HC
  ihave #G11 := (ctx_rch I K c 11) $$ HC
  ihave #G15 := (ctx_rch I K c 15) $$ HC
  ihave #G16 := (ctx_rch I K c 16) $$ HC
  ihave #G17 := (ctx_rch I K c 17) $$ HC
  ihave #G21 := (ctx_rch I K c 21) $$ HC
  ihave #G22 := (ctx_rch I K c 22) $$ HC
  ihave #G23 := (ctx_rch I K c 23) $$ HC
  ihave #G25 := (ctx_rch I K c 25) $$ HC
  ihave #G27 := (ctx_rch I K c 27) $$ HC
  unfold barR barL barA
  iframe A0 B0 C0 D0 Z Y
  iframe A1 A2 A3 B1 B2 B3 C1 C2 C3 D1 D2 D3
  iframe G3 G4 G5 G9 G10 G11 G15 G16 G17 G21 G22 G23 G25 G27

theorem toks_list : (bigSep Finset.univ (fun t : Fin 14 => tok t c) : sProp 𝕄)
    = iprop(tok 0 c ∗ tok 1 c ∗ tok 2 c ∗ tok 3 c ∗ tok 4 c ∗ tok 5 c ∗ tok 6 c ∗ tok 7 c ∗ tok 8 c ∗ tok 9 c ∗ tok 10 c ∗ tok 11 c ∗ tok 12 c ∗ tok 13 c) :=
  bigSep_univ_eq_bigSepL [0, 1, 2, 3, 4, 5, 6, 7, 8, 9, 10, 11, 12, 13] (by decide) (by decide) _
theorem wtoks_list : (bigSep Finset.univ (fun t : Fin 14 => wtok (kR t) c) : sProp 𝕄)
    = iprop(wtok 3 c ∗ wtok 4 c ∗ wtok 5 c ∗ wtok 9 c ∗ wtok 10 c ∗ wtok 11 c ∗ wtok 15 c ∗ wtok 16 c ∗ wtok 17 c ∗ wtok 21 c ∗ wtok 22 c ∗ wtok 23 c
      ∗ wtok 25 c ∗ wtok 27 c) :=
  bigSep_univ_eq_bigSepL [0, 1, 2, 3, 4, 5, 6, 7, 8, 9, 10, 11, 12, 13] (by decide) (by decide) _
theorem sems_list : (bigSep Finset.univ (fun k : Fin 28 => semVal (cell c k) 0) : sProp 𝕄)
    = iprop(semVal (cell c 0) 0 ∗ semVal (cell c 1) 0 ∗ semVal (cell c 2) 0 ∗ semVal (cell c 3) 0 ∗ semVal (cell c 4) 0 ∗ semVal (cell c 5) 0
      ∗ semVal (cell c 6) 0 ∗ semVal (cell c 7) 0 ∗ semVal (cell c 8) 0 ∗ semVal (cell c 9) 0 ∗ semVal (cell c 10) 0 ∗ semVal (cell c 11) 0
      ∗ semVal (cell c 12) 0 ∗ semVal (cell c 13) 0 ∗ semVal (cell c 14) 0 ∗ semVal (cell c 15) 0 ∗ semVal (cell c 16) 0 ∗ semVal (cell c 17) 0
      ∗ semVal (cell c 18) 0 ∗ semVal (cell c 19) 0 ∗ semVal (cell c 20) 0 ∗ semVal (cell c 21) 0 ∗ semVal (cell c 22) 0 ∗ semVal (cell c 23) 0
      ∗ semVal (cell c 24) 0 ∗ semVal (cell c 25) 0 ∗ semVal (cell c 26) 0 ∗ semVal (cell c 27) 0) :=
  bigSep_univ_eq_bigSepL [0, 1, 2, 3, 4, 5, 6, 7, 8, 9, 10, 11, 12, 13, 14, 15, 16, 17, 18, 19, 20, 21, 22, 23, 24, 25, 26, 27] (by decide) (by decide) _

/-- The stored value, group by group, is the result. -/
theorem out_eq : (slotP oW c fullShare (shapeCast S2x128x512 (grp (k0_pay9 k0_pay8 (iota .tc S256x256 32 [1] iota_S256x256_d1_w32)) (k0_pay7 (I.x c))
    (grpOf I c (fw c 3) (grpOf I c (bk c 3) (grpOf I c (fw c 2) (grpOf I c (bk c 2) (grpOf I c (fw c 1) (grpOf I c (bk c 1)
      (grp (k0_pay9 k0_pay8 (iota .tc S256x256 32 [1] iota_S256x256_d1_w32)) (k0_pay7 (I.x c)) k0_pay10 (up (wqb I (bk c 0))) (up (wob I (bk c 0)))
        (up (kvs (k0_pay11 (I.k c)) c)) (up (kvs (k0_pay12 (I.v c)) c)))))))))
    (up (wqb I (fw c 4))) (up (wob I (fw c 4))) (up (kvs (k0_pay11 (I.k c)) (fw c 4))) (up (kvs (k0_pay12 (I.v c)) (fw c 4))))) : sProp 𝕄)
    = slotP oW c fullShare (outV I c) := by
  rw [bk_zero]; rfl

set_option maxHeartbeats 8000000 in
/-- The body: from what the device starts with to what it ends with. -/

theorem run_body {Q : PUnit → sProp 𝕄} :
    ctx I K c ⊢ iprop(bodyPre I c -∗ (bodyPost I c -∗ Q ⟨⟩)
      -∗ wp frame (wpE (defs₀ (F := F)) 𝒱₀ (c : Thread nD τ) none) Set.univ (atBufs (cc0_body (F := F))) Q) := by
  unfold atBufs
  rw [cc0_body_eq_skeleton]
  unfold cc0_body_skel
  rw [wp_bind, k0_part31_eq_skeleton]
  unfold k0_part31_skel bodyPre barToks scratch windows
  rw [toks_list, wtoks_list]
  iintro #HC ⟨HO, ⟨td1, rd1, td2, rd2, td3, rd3, cb, ab⟩, ⟨T0, T1, T2, T3, T4, T5, T6, T7, T8, T9, T10, T11, T12, T13⟩,
    ⟨W3, W4, W5, W9, W10, W11, W15, W16, W17, W21, W22, W23, W25, W27⟩, ⟨A, B, C, D, Z, Y, KF, VF⟩, ⟨X0, X1, X2, X3, X4⟩, X5⟩ Hk
  ihave A := (hand_over I c K) $$ HC A B C D Z Y
  icases A with ⟨pd1, pd2, pd3, A0, B0, C0, D0⟩
  ihave KF := (eight_of_any c kgM) $$ KF
  icases KF with ⟨K0, K1, K2, K3, K4, K5, K6, K7⟩
  ihave VF := (eight_of_any c vgM) $$ VF
  icases VF with ⟨V0, V1, V2, V3, V4, V5, V6, V7⟩
  -- part 1
  rw [wp_bind]
  iapply (run_part1 I c K) $$ HC HO td1 rd1 pd1 td2 rd2 pd2 td3 rd3 pd3 cb ab X1 X4 A0
  iintro %v2 %v4 %v7 %v9
  iintro ⟨HO, zb, pr, pl, pa, X1, X4, A0⟩
  dsimp only
  ihave A0 := (Entails.of_eq (own_wq_bk I c)) $$ A0
  ihave pr := (Entails.of_eq (barR_eq (fw c 1))) $$ pr
  icases pr with ⟨PA1, PA2, PA3, PB1, PB2, PB3, G0, G1, G2, G3, G4, G5⟩
  ihave pl := (Entails.of_eq (barL_eq (bk c 1))) $$ pl
  icases pl with ⟨PC1, PC2, PC3, PD1, PD2, PD3, G6, G7, G8, G9, G10, G11⟩
  ihave pa := (Entails.of_eq (barA_eq (fw c 4))) $$ pa
  icases pa with ⟨PZ0, PY0, G12, G13⟩
  -- part 2
  rw [wp_bind]
  iapply (run_part2 I c K _ _) $$ HC B0 C0 D0 X0
  iintro ⟨B0, C0, D0, X0⟩
  dsimp only
  ihave B0 := (Entails.of_eq (own_wo_bk I c)) $$ B0
  ihave C0 := (Entails.of_eq (own_wq_fw I c)) $$ C0
  ihave D0 := (Entails.of_eq (own_wo_fw I c)) $$ D0
  -- part 3
  rw [wp_bind]
  iapply (run_part3 I c K _ _ _) $$ HC HO T0 G0 A0 PA1
  iintro ⟨HO, A0, W0⟩
  dsimp only
  -- part 4
  rw [wp_bind]
  iapply (run_part4 I c K _ _) $$ HC HO T6 G6 C0 PC1 T3 G3 B0 PB1 T9 G9 D0 PD1
  iintro ⟨HO, C0, W12, B0, W6, D0, W18⟩
  -- part 5
  rw [wp_bind]
  iapply (run_part5 I c K _) $$ HC HO T12 G12 A0 PZ0 T13 G13 B0 PY0 X2 X3 K0
  iintro ⟨HO, A0, W24, B0, W26, X2, X3, K0⟩
  dsimp only
  -- part 6
  rw [wp_bind]
  iapply (run_part6 I c K _ _ _) $$ HC V0 K1 V1 K2 V2 K3 V3 K4
  iintro ⟨V0, K1, V1, K2, V2, K3, V3, K4⟩
  -- part 7
  rw [wp_bind]
  iapply (run_part7 I c K _ _ _) $$ HC K4 V4 K5 V5 K6 V6 K7 V7
  iintro ⟨K4, V4, K5, V5, K6, V6, K7, V7⟩
  ihave KF := (kfam_intro I c) $$ K0 K1 K2 K3 K4 K5 K6 K7
  ihave VF := (vfam_intro I c) $$ V0 V1 V2 V3 V4 V5 V6 V7
  -- part 8
  rw [wp_bind]
  iapply (run_part8 I c K _ _ _) $$ HC A0 B0 KF VF
  iintro ⟨A0, B0, KF, VF⟩
  dsimp only
  -- part 9
  rw [wp_bind]
  iapply (run_part9 I c K _ _ _ _ _ _ _ _ _ _ _) $$ HC HO W3
  iintro ⟨HO, z3, A1⟩
  rw [group_1]
  -- part 10
  rw [wp_bind]
  iapply (run_part10 I c K _ _) $$ HC HO T1 G1 A1 PA2 W15 T7 G7 PC2
  iintro ⟨HO, A1, W1, z15, C1, W13⟩
  -- part 11
  rw [wp_bind]
  iapply (run_part11 I c K _ _) $$ HC HO W9 T4 G4 PB2 W21
  iintro ⟨HO, z9, B1, W7, z21, D1⟩
  -- part 12
  rw [wp_bind]
  iapply (run_part12 I c K _ _ _) $$ HC HO T10 G10 D1 PD2 A1 B1 KF VF
  iintro ⟨HO, D1, W19, A1, B1, KF, VF⟩
  dsimp only
  -- part 13
  rw [wp_bind]
  iapply (run_part13 I c K _ _ _ _ _ _ _ _ _ _ _ _) $$ HC C1 D1
  iintro %v429
  iintro ⟨C1, D1⟩
  dsimp only
  rw [group_2]
  -- part 14
  rw [wp_bind]
  iapply (run_part14 I c K _ _ _ _) $$ HC KF VF
  iintro ⟨KF, VF⟩
  dsimp only
  -- part 15
  rw [wp_bind]
  iapply (run_part15 I c K _ _ _ _ _ _ _ _ _ _ _) $$ HC HO W4
  iintro ⟨HO, z4, A2⟩
  rw [group_3]
  -- part 16
  rw [wp_bind]
  iapply (run_part16 I c K _ _) $$ HC HO T2 G2 A2 PA3 W16 T8 G8 PC3 W10
  iintro ⟨HO, A2, W2, z16, C2, W14, z10, B2⟩
  -- part 17
  rw [wp_bind]
  iapply (run_part17 I c K _ _) $$ HC HO T5 G5 B2 PB3 W22
  iintro ⟨HO, B2, W8, z22, D2⟩
  -- part 18
  rw [wp_bind]
  iapply (run_part18 I c K _ _ _) $$ HC HO T11 G11 D2 PD3 A2 B2 KF VF
  iintro ⟨HO, D2, W20, A2, B2, KF, VF⟩
  dsimp only
  -- part 19
  rw [wp_bind]
  iapply (run_part19 I c K _ _ _ _ _ _ _ _ _ _ _ _ _) $$ HC C2 D2
  iintro %v638
  iintro ⟨C2, D2⟩
  dsimp only
  rw [group_4]
  -- part 20
  rw [wp_bind]
  iapply (run_part20 I c K _ _ _) $$ HC KF VF
  iintro ⟨KF, VF⟩
  dsimp only
  -- part 21
  rw [wp_bind]
  iapply (run_part21 I c K _ _ _ _ _ _ _ _ _) $$ HC HO W5 W17
  iintro ⟨HO, z5, A3, z17, C3⟩
  rw [group_5]
  -- part 22
  rw [wp_bind]
  iapply (run_part22 I c K _ _ _) $$ HC HO W11 W23 A3 KF VF
  iintro ⟨HO, z11, B3, z23, D3, A3, KF, VF⟩
  dsimp only
  -- part 23
  rw [wp_bind]
  iapply (run_part23 I c K _ _ _ _) $$ HC
  dsimp only
  -- part 24
  rw [wp_bind]
  iapply (run_part24 I c K _ _ _ _ _ _ _ _ _ _) $$ HC C3 D3 KF VF
  iintro ⟨C3, D3, KF, VF⟩
  dsimp only
  rw [group_6]
  -- part 25
  rw [wp_bind]
  iapply (run_part25 I c K _ _ _ _ _ _ _ _ _ _ _) $$ HC HO W25
  iintro ⟨HO, z25, Z0⟩
  rw [group_7]
  -- part 26
  rw [wp_bind]
  iapply (run_part26 I c K _ _ _ _) $$ HC HO W27 Z0 KF VF
  iintro ⟨HO, z27, Y0, Z0, KF, VF⟩
  dsimp only
  -- part 27
  rw [wp_bind]
  iapply (run_part27 I c K _ _ _ _ _ _ _ _ _) $$ HC X5
  iintro X5
  rw [group_8]
  -- part 28
  rw [wp_bind]
  iapply (run_part28 I c K) $$ HC HO W0 W12 W6
  iintro ⟨HO, z0, L0, z12, L6, z6, L3⟩
  -- part 29
  rw [wp_bind]
  iapply (run_part29 I c K) $$ HC HO W18 W1 W13 W7
  iintro ⟨HO, z18, L9, z1, L1, z13, L7, z7, L4⟩
  -- part 30
  rw [wp_bind]
  iapply (run_part30 I c K) $$ HC HO W19 W2 W14 W8
  iintro ⟨HO, z19, L10, z2, L2, z14, L8, z8, L5⟩
  -- the last three waits
  simp only [Prog.lift, Prog.bind_op, Prog.bind_ret, Prog.pure_eq_ret]
  iapply (wt I c K 20 (src := (so4 lwo 3 lt4_3)) (dst := (so4 lwo 2 lt4_2)) rfl [] (by decide) rfl (slotP (so4 lwo 2 lt4_2) c qh (wob I (fw c 2))) rfl) $$ HC HO W20
  iintro ⟨HO, z20, L11⟩
  iapply (wt I c K 24 (src := zq) (dst := (sq4 rwq 0 lt4_0)) rfl [] (by decide) rfl (slotP (sq4 rwq 0 lt4_0) c qz (wqb I (bk c 0))) rfl) $$ HC HO W24
  iintro ⟨HO, z24, L12⟩
  rw [wp_ret]
  imodintro
  iapply (wt I c K 26 (src := zo) (dst := (so4 rwo 0 lt4_0)) rfl [] (by decide) rfl (slotP (so4 rwo 0 lt4_0) c qz (wob I (bk c 0))) rfl) $$ HC HO W26
  iintro ⟨HO, z26, L13⟩
  rw [wp_ret]
  imodintro
  iapply Hk
  unfold bodyPost scratch windows
  rw [sems_list]
  ihave A0 := (back3 c (sq4 rwq 0 lt4_0) _ _ _) $$ [L0 L12 A0]
  · iframe L0 L12 A0
  ihave A1 := (back2 c (sq4 rwq 1 lt4_1) _ _) $$ [L1 A1]
  · iframe L1 A1
  ihave A2 := (back2 c (sq4 rwq 2 lt4_2) _ _) $$ [L2 A2]
  · iframe L2 A2
  ihave A3 := (slotP_any (sq4 rwq 3 lt4_3) c _) $$ A3
  ihave A := (any_of_four c rwq) $$ [A0 A1 A2 A3]
  · iframe A0 A1 A2 A3
  ihave B0 := (back3 c (so4 rwo 0 lt4_0) _ _ _) $$ [L3 L13 B0]
  · iframe L3 L13 B0
  ihave B1 := (back2 c (so4 rwo 1 lt4_1) _ _) $$ [L4 B1]
  · iframe L4 B1
  ihave B2 := (back2 c (so4 rwo 2 lt4_2) _ _) $$ [L5 B2]
  · iframe L5 B2
  ihave B3 := (slotP_any (so4 rwo 3 lt4_3) c _) $$ B3
  ihave B := (any_of_four c rwo) $$ [B0 B1 B2 B3]
  · iframe B0 B1 B2 B3
  ihave C0 := (back2 c (sq4 lwq 0 lt4_0) _ _) $$ [L6 C0]
  · iframe L6 C0
  ihave C1 := (back2 c (sq4 lwq 1 lt4_1) _ _) $$ [L7 C1]
  · iframe L7 C1
  ihave C2 := (back2 c (sq4 lwq 2 lt4_2) _ _) $$ [L8 C2]
  · iframe L8 C2
  ihave C3 := (slotP_any (sq4 lwq 3 lt4_3) c _) $$ C3
  ihave C := (any_of_four c lwq) $$ [C0 C1 C2 C3]
  · iframe C0 C1 C2 C3
  ihave D0 := (back2 c (so4 lwo 0 lt4_0) _ _) $$ [L9 D0]
  · iframe L9 D0
  ihave D1 := (back2 c (so4 lwo 1 lt4_1) _ _) $$ [L10 D1]
  · iframe L10 D1
  ihave D2 := (back2 c (so4 lwo 2 lt4_2) _ _) $$ [L11 D2]
  · iframe L11 D2
  ihave D3 := (slotP_any (so4 lwo 3 lt4_3) c _) $$ D3
  ihave D := (any_of_four c lwo) $$ [D0 D1 D2 D3]
  · iframe D0 D1 D2 D3
  ihave Z := (slotP_any zq c _) $$ Z0
  ihave Z := (any_of_one c zwq Nat.one_pos) $$ Z
  ihave Y := (slotP_any zo c _) $$ Y0
  ihave Y := (any_of_one c zwo Nat.one_pos) $$ Y
  ihave KF := (kfam_any I c) $$ KF
  ihave VF := (vfam_any I c) $$ VF
  ihave X5 := (Entails.of_eq (out_eq I c)) $$ X5
  isplitl [HO]; · iexact HO
  isplitl [zb]; · iexact zb
  isplitl [z0 z1 z2 z3 z4 z5 z6 z7 z8 z9 z10 z11 z12 z13 z14 z15 z16 z17 z18 z19 z20 z21 z22 z23 z24 z25 z26 z27]
  · iframe z0 z1 z2 z3 z4 z5 z6 z7 z8 z9 z10 z11 z12 z13 z14 z15 z16 z17 z18 z19 z20 z21 z22 z23 z24 z25 z26 z27
  iframe A B C D Z Y KF VF X0 X1 X2 X3 X4 X5

end Cert.Proof
-- ==== Proof.Region.lean ====
/-
  The kernel as a region of the program: what its windows hold before and after the body, the invariant
  around the body, and the body between them.
-/
module

public import proofs.«01_k».proof.Proof.Body
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Value

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (V : Dev nD → Valuation τ sig (Elt F))

/-! ## The windows -/

/-- What the kernel reads when device d's buffers stand at V d. -/
def insOf : Ins F where
  x d := V d main_arg0
  wq d := V d main_arg1
  k d := V d main_v15
  v d := V d main_v17
  wo d := V d main_arg4

/-- The ghost state the body starts with, its own transfer cells opened. -/
def opened (c : Dev nD) : sProp 𝕄 :=
  iprop((∃ K, ctx (insOf V) K c) ∗ barToks c ∗ bigSep Finset.univ (fun t : Fin 14 => tok t c)
    ∗ bigSep Finset.univ (fun t : Fin 14 => wtok (kR t) c))

/-- The k-th transfer semaphore the kernel owns. -/
def osem (k : Fin 28) : SemLoc sig := .dma (ownS k)

/-- The data of the region on device c: it enters with the arrays at V c, the input windows hold their arrays
    throughout, the output window ends at the result; what is owed at launch is paid by the body. -/
def dat (c : Dev nD) : Dat τ (Elt F) Unit ℕ UU ℕ cfg0 c where
  A w := V c (Proc.devRef .tc (Pipeline.arrRef spec0 w))
  after w _ := match w with
    | ⟨0, _⟩ => (insOf V).x c
    | ⟨1, _⟩ => (insOf V).wq c
    | ⟨2, _⟩ => (insOf V).k c
    | ⟨3, _⟩ => (insOf V).v c
    | ⟨4, _⟩ => (insOf V).wo c
    | ⟨5, _⟩ => outV (insOf V) c
    | ⟨_ + 6, h⟩ => absurd h (Nat.not_lt.2 (Nat.le_add_left _ _))
  Φ t := if t.val = 0 then iprop(opened V c ∗ scratch c ∗ ∃ r, prngReg c r)
    else iprop(semVal (barCell c) 0 ∗ bigSep Finset.univ (fun k : Fin 28 => semVal (cell c k) 0) ∗ scratch c ∗ ∃ r, prngReg c r)
  q _ := fullShare
  owed t := if t.val = 0 then O₀ c else 0

def pdats : (p : Fin 1) → (c : Dev nD) → Dat τ (Elt F) Unit ℕ UU ℕ (cfgs p) c := fun _ => dat V

theorem first_val : (t0_0.castSucc : Fin (cfg0.N + 1)).val = 0 := rfl
theorem last_val : (t0_0.succ : Fin (cfg0.N + 1)).val ≠ 0 := Nat.succ_ne_zero _

theorem Φ_first (c : Dev nD) : (dat V c).Φ t0_0.castSucc = iprop(opened V c ∗ scratch c ∗ ∃ r, prngReg c r) := rfl
theorem Φ_last (c : Dev nD) : (dat V c).Φ t0_0.succ
    = iprop(semVal (barCell c) 0 ∗ bigSep Finset.univ (fun k : Fin 28 => semVal (cell c k) 0) ∗ scratch c ∗ ∃ r, prngReg c r) := rfl

theorem owed_first (c : Dev nD) : (dat V c).owed t0_0.castSucc = O₀ c := rfl
theorem owed_last (c : Dev nD) : (dat V c).owed t0_0.succ = 0 := rfl

/-- What the core owes at a point, its waits forgotten. -/
theorem owesAt_out (c : Dev nD) (t : Fin (cfg0.N + 1)) (O : CellTallies nD τ sig Unit) (h : (dat V c).owed t = O) :
    ((dat V c).owesAt () t : sProp 𝕄) ⊢ owesX c O := by
  unfold Dat.owesAt Pipeline.owesWithin owesX; rw [h]
  iintro ⟨%W, -, HO⟩; iexists W; iexact HO
theorem owesAt_in (c : Dev nD) (t : Fin (cfg0.N + 1)) (O : CellTallies nD τ sig Unit) (h : (dat V c).owed t = O) :
    (owesX c O : sProp 𝕄) ⊢ (dat V c).owesAt () t := by
  unfold Dat.owesAt Pipeline.owesWithin owesX Dat.bound; rw [h]
  iintro ⟨%W, HO⟩; iexists W
  isplitr; · ipureintro; exact fun _ _ => Or.inl trivial
  iexact HO

/-- Each input window holds its array when the body starts. -/
theorem before_0 (c : Dev nD) (d) : (dat V c).before (0 : Fin 6) t0_0 d = (insOf V).x c := by
  unfold Dat.before; rw [if_pos (fetch0_0 t0_0)]
  show (win0_0.blk t0_0).view.read (Elt F) (V c main_arg0) = V c main_arg0
  exact Memref.read_access_unit_zero (Elt F) main_arg0 (off := fun a => win0_0.index t0_0 a * main_arg0.ty.shape.size a) (funext fun a => Nat.zero_mul _) _ _
theorem before_1 (c : Dev nD) (d) : (dat V c).before (1 : Fin 6) t0_0 d = (insOf V).wq c := by
  unfold Dat.before; rw [if_pos (fetch0_1 t0_0)]
  show (win0_1.blk t0_0).view.read (Elt F) (V c main_arg1) = V c main_arg1
  exact Memref.read_access_unit_zero (Elt F) main_arg1 (off := fun a => win0_1.index t0_0 a * main_arg1.ty.shape.size a) (funext fun a => Nat.zero_mul _) _ _
theorem before_2 (c : Dev nD) (d) : (dat V c).before (2 : Fin 6) t0_0 d = (insOf V).k c := by
  unfold Dat.before; rw [if_pos (fetch0_2 t0_0)]
  show (win0_2.blk t0_0).view.read (Elt F) (V c main_v15) = V c main_v15
  exact Memref.read_access_unit_zero (Elt F) main_v15 (off := fun a => win0_2.index t0_0 a * main_v15.ty.shape.size a) (funext fun a => Nat.zero_mul _) _ _
theorem before_3 (c : Dev nD) (d) : (dat V c).before (3 : Fin 6) t0_0 d = (insOf V).v c := by
  unfold Dat.before; rw [if_pos (fetch0_3 t0_0)]
  show (win0_3.blk t0_0).view.read (Elt F) (V c main_v17) = V c main_v17
  exact Memref.read_access_unit_zero (Elt F) main_v17 (off := fun a => win0_3.index t0_0 a * main_v17.ty.shape.size a) (funext fun a => Nat.zero_mul _) _ _
theorem before_4 (c : Dev nD) (d) : (dat V c).before (4 : Fin 6) t0_0 d = (insOf V).wo c := by
  unfold Dat.before; rw [if_pos (fetch0_4 t0_0)]
  show (win0_4.blk t0_0).view.read (Elt F) (V c main_arg4) = V c main_arg4
  exact Memref.read_access_unit_zero (Elt F) main_arg4 (off := fun a => win0_4.index t0_0 a * main_arg4.ty.shape.size a) (funext fun a => Nat.zero_mul _) _ _

/-- The windows before the body, and after it. -/
abbrev stgPre (c : Dev nD) : sProp 𝕄 :=
  iprop((∃ d, owns (c : Thread nD τ) (stage0_0 0) fullShare ((dat V c).before (0 : Fin 6) t0_0 d))
    ∗ (∃ d, owns (c : Thread nD τ) (stage0_1 0) fullShare ((dat V c).before (1 : Fin 6) t0_0 d))
    ∗ (∃ d, owns (c : Thread nD τ) (stage0_2 0) fullShare ((dat V c).before (2 : Fin 6) t0_0 d))
    ∗ (∃ d, owns (c : Thread nD τ) (stage0_3 0) fullShare ((dat V c).before (3 : Fin 6) t0_0 d))
    ∗ (∃ d, owns (c : Thread nD τ) (stage0_4 0) fullShare ((dat V c).before (4 : Fin 6) t0_0 d))
    ∗ (∃ d, owns (c : Thread nD τ) (stage0_5 0) fullShare ((dat V c).before (5 : Fin 6) t0_0 d)))
abbrev stgPost (c : Dev nD) : sProp 𝕄 :=
  iprop(owns (c : Thread nD τ) (stage0_0 0) fullShare ((dat V c).after (0 : Fin 6) t0_0)
    ∗ owns (c : Thread nD τ) (stage0_1 0) fullShare ((dat V c).after (1 : Fin 6) t0_0)
    ∗ owns (c : Thread nD τ) (stage0_2 0) fullShare ((dat V c).after (2 : Fin 6) t0_0)
    ∗ owns (c : Thread nD τ) (stage0_3 0) fullShare ((dat V c).after (3 : Fin 6) t0_0)
    ∗ owns (c : Thread nD τ) (stage0_4 0) fullShare ((dat V c).after (4 : Fin 6) t0_0)
    ∗ owns (c : Thread nD τ) (stage0_5 0) fullShare ((dat V c).after (5 : Fin 6) t0_0))

/-- A staging buffer held before the body holds its device's input. -/
theorem stg_in_0 (c : Dev nD) (d) : (owns (c : Thread nD τ) (stage0_0 0) fullShare ((dat V c).before (0 : Fin 6) t0_0 d) : sProp 𝕄)
    ⊢ slotP xW c fullShare ((insOf V).x c) := Entails.of_eq (congrArg (slotP xW c fullShare) (before_0 V c d))
theorem stg_in_1 (c : Dev nD) (d) : (owns (c : Thread nD τ) (stage0_1 0) fullShare ((dat V c).before (1 : Fin 6) t0_0 d) : sProp 𝕄)
    ⊢ slotP wqW c fullShare ((insOf V).wq c) := Entails.of_eq (congrArg (slotP wqW c fullShare) (before_1 V c d))
theorem stg_in_2 (c : Dev nD) (d) : (owns (c : Thread nD τ) (stage0_2 0) fullShare ((dat V c).before (2 : Fin 6) t0_0 d) : sProp 𝕄)
    ⊢ slotP kW c fullShare ((insOf V).k c) := Entails.of_eq (congrArg (slotP kW c fullShare) (before_2 V c d))
theorem stg_in_3 (c : Dev nD) (d) : (owns (c : Thread nD τ) (stage0_3 0) fullShare ((dat V c).before (3 : Fin 6) t0_0 d) : sProp 𝕄)
    ⊢ slotP vW c fullShare ((insOf V).v c) := Entails.of_eq (congrArg (slotP vW c fullShare) (before_3 V c d))
theorem stg_in_4 (c : Dev nD) (d) : (owns (c : Thread nD τ) (stage0_4 0) fullShare ((dat V c).before (4 : Fin 6) t0_0 d) : sProp 𝕄)
    ⊢ slotP woW c fullShare ((insOf V).wo c) := Entails.of_eq (congrArg (slotP woW c fullShare) (before_4 V c d))
theorem stg_any (c : Dev nD) (w) : (owns (c : Thread nD τ) (stage0_5 0) fullShare w : sProp 𝕄) ⊢ slotAny oW c := slotP_any oW c w

theorem stgPre_elim (c : Dev nD) : (stgPre V c : sProp 𝕄) ⊢ iprop(windows (insOf V) c ∗ slotAny oW c) := by
  unfold windows
  iintro ⟨⟨%d0, H0⟩, ⟨%d1, H1⟩, ⟨%d2, H2⟩, ⟨%d3, H3⟩, ⟨%d4, H4⟩, ⟨%d5, H5⟩⟩
  ihave H0 := (stg_in_0 V c d0) $$ H0
  ihave H1 := (stg_in_1 V c d1) $$ H1
  ihave H2 := (stg_in_2 V c d2) $$ H2
  ihave H3 := (stg_in_3 V c d3) $$ H3
  ihave H4 := (stg_in_4 V c d4) $$ H4
  ihave H5 := (stg_any c ((dat V c).before (5 : Fin 6) t0_0 d5)) $$ H5
  iframe

theorem stgPost_eq (c : Dev nD) : (stgPost V c : sProp 𝕄)
    = iprop(slotP xW c fullShare ((insOf V).x c) ∗ slotP wqW c fullShare ((insOf V).wq c) ∗ slotP kW c fullShare ((insOf V).k c)
      ∗ slotP vW c fullShare ((insOf V).v c) ∗ slotP woW c fullShare ((insOf V).wo c) ∗ slotP oW c fullShare (outV (insOf V) c)) := rfl

theorem stgPost_intro (c : Dev nD) : iprop(windows (insOf V) c ∗ slotP oW c fullShare (outV (insOf V) c)) ⊢ (stgPost V c : sProp 𝕄) := by
  rw [stgPost_eq]
  unfold windows
  iintro ⟨⟨H0, H1, H2, H3, H4⟩, H5⟩
  iframe

/-- No window is idle at the one point. -/
theorem idle_false (w : Fin 6) : cfg0.idle w (cfg0.grid.coords t0_0) = false := rfl

/-- The body, from the invariant and the windows before it to those after it. -/
theorem body_holds (c : Dev nD) : BodyObligation (dat V c) (defs₀ (F := F)) 𝒱₀ () Set.univ := fun t => by
  obtain rfl := fin_N0 t
  have hb : defs₀ (F := F) .tc cfg0.body (cfg0.bodyArgs t0_0 (cfg0.slots t0_0)) = atBufs (cc0_body (F := F)) := rfl
  rw [bigSep_W0, bigSep_W0, Φ_first, hb]
  simp only [idle_false, Φ_last]
  unfold opened
  iintro ⟨⟨⟨⟨%K, #HC⟩, Hb, Ht, Hw⟩, Hs, Hr⟩, HO, HW⟩
  ihave HO := (owesAt_out V c _ (O₀ c) (owed_first V c)) $$ HO
  ihave HW := (stgPre_elim V c) $$ HW
  icases HW with ⟨HW, Ho⟩
  iapply (run_body (insOf V) c K) $$ HC [Hb Ht Hw Hs HO HW Ho]
  · unfold bodyPre; iframe
  unfold bodyPost
  iintro ⟨HO, Hb, Hv, Hs, HW, Ho⟩
  ihave HO := (owesAt_in V c _ 0 (owed_last V c)) $$ HO
  ihave HW := (stgPost_intro V c) $$ [HW Ho]
  · iframe
  iframe

end Cert.Proof

end
-- ==== Proof.Record.lean ====
/-
  The kernel's region as the launch takes it: the transfer cells opened at its entry, its arrays before and after,
  and what it is entered with and left with.
-/
module

public import proofs.«01_k».proof.Proof.Region

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (V : Dev nD → Valuation τ sig (Elt F))

/-! ## The opening of the transfer cells -/

theorem kS_inj : Function.Injective kS := by decide
theorem kR_inj : Function.Injective kR := by decide
def kSe : Fin 14 ↪ Fin 28 := ⟨kS, kS_inj⟩
def kRe : Fin 14 ↪ Fin 28 := ⟨kR, kR_inj⟩
theorem cells_univ : (Finset.univ : Finset (Fin 28)) = Finset.univ.map kSe ∪ Finset.univ.map kRe := by decide
theorem cells_disj : Disjoint (Finset.univ.map kSe) (Finset.univ.map kRe) := by decide

/-- A family over the transfer cells is one over the send cells and one over the receive cells. -/
theorem bigSep_cells (Φ : Fin 28 → sProp 𝕄) :
    bigSep Finset.univ Φ = iprop(bigSep Finset.univ (fun t : Fin 14 => Φ (kS t)) ∗ bigSep Finset.univ (fun t : Fin 14 => Φ (kR t))) := by
  rw [cells_univ, bigSep_union cells_disj, bigSep_map, bigSep_map]
  rfl

/-- What the launch leaves with device c for the kernel: the schedule's invariants, the barrier tokens, the rights to
    open its transfer cells, the tokens of the duties it pays, and the credit of its receive cells. -/
def talk (c : Dev nD) : sProp 𝕄 :=
  iprop((∃ K, allInv (insOf V) K) ∗ barToks c ∗ bigSep Finset.univ (fun k : Fin 28 => openTok ER (cell c k))
    ∗ bigSep Finset.univ (fun t : Fin 14 => iprop(dutyTok ER (cell c (kS t)) 0 0 ∗ dutyTok ER (cell (pe t c) (kR t)) 0 0))
    ∗ bigSep Finset.univ (fun t : Fin 14 => cred (tallyAt (cell c (kR t)) () N)))

theorem open_one (I : Ins F) (K : GSem nD τ sig → ℕ) (c : Dev nD) (k : Fin 28) :
    iprop(allInv I K ∗ (openTok ER (cell c k) ∗ semVal (cell c k) 0)) ⊢ (|={Set.univ}=> iprop(atPos ER (cell c k) 0 ∅ 0 ∗ rch c k) : sProp 𝕄) := by
  unfold rch
  iintro ⟨#HI, Ho, Hs⟩
  ihave #Hc := (inv_cell I K c k) $$ HI
  iapply (Rounds.cell_open ER (sched I) (g := cell c k) (Set.mem_univ (K (cell c k))))
  isplitr; · iexact Hc
  isplitl [Ho] <;> iassumption

/-- All the transfer cells of a device opened at once. -/
theorem open_all (I : Ins F) (K : GSem nD τ sig → ℕ) (c : Dev nD) :
    iprop(allInv I K ∗ bigSep Finset.univ (fun k : Fin 28 => iprop(openTok ER (cell c k) ∗ semVal (cell c k) 0)))
      ⊢ (|={Set.univ}=> bigSep Finset.univ (fun k : Fin 28 => iprop(atPos ER (cell c k) 0 ∅ 0 ∗ rch c k)) : sProp 𝕄) :=
  (bigSep_with_persistent (R := allInv I K) fun k _ => open_one I K c k).trans (bigSep_fupd _ _)

theorem ownSems_eq (c : Dev nD) : (Pipeline.ownSems0 osem c : sProp 𝕄) = bigSep Finset.univ (fun k : Fin 28 => semVal (cell c k) 0) := rfl

theorem opens (c : Dev nD) : iprop(talk V c ∗ Pipeline.ownSems0 osem c ∗ levAts L lv) ⊢ (|={Set.univ}=> opened V c : sProp 𝕄) := by
  rw [ownSems_eq]
  unfold talk opened
  iintro ⟨⟨⟨%K, #HI⟩, Hb, Ho, Ht, Hc⟩, Hs, #Hl⟩
  imod (open_all (insOf V) K c) $$ [Ho Hs] with H
  · isplitr; · iexact HI
    iapply (Entails.of_eq (bigSep_sep' _ _ _).symm)
    isplitl [Ho] <;> iassumption
  imodintro
  ihave H := (Entails.of_eq (bigSep_sep' _ _ _)) $$ H
  icases H with ⟨Ha, #Hr⟩
  ihave Ha := (Entails.of_eq (bigSep_cells (fun k : Fin 28 => atPos ER (cell c k) 0 ∅ 0))) $$ Ha
  icases Ha with ⟨HaS, HaR⟩
  isplitr
  · iexists K; unfold ctx
    isplitr; · iexact HI
    isplitr; · iexact Hl
    iexact Hr
  isplitl [Hb]; · iexact Hb
  isplitl [HaS Ht]
  · unfold tok
    iapply (Entails.of_eq (bigSep_sep' _ _ _).symm)
    isplitl [HaS] <;> iassumption
  · unfold wtok
    iapply (Entails.of_eq (bigSep_sep' _ _ _).symm)
    isplitl [Hc] <;> iassumption

/-! ## The invariant's two ends -/

theorem scratch_eq (c : Dev nD) : (Pipeline.scopedRest (Pipeline.pin (pcfgs (F := F)) adm 0).spec c : sProp 𝕄) = scratch c := by
  rw [show (Pipeline.scopedRest (Pipeline.pin (pcfgs (F := F)) adm 0).spec c : sProp 𝕄) = Pipeline.scopedRest spec0 c from rfl, scopedRest0_eq]
  unfold scratch slotAny
  simp only [View.set_whole]

/-- The arrays before the region: what the host part left. -/
abbrev W₁ (m : (ℓ : Loc nD τ sig) → Buf (Elt F) ℓ) (c : Dev nD) : Valuation τ sig (Elt F) := V1 m c
/-- The buffers after the region: the result in its array, every other one as before. -/
def W₂ (m : (ℓ : Loc nD τ sig) → Buf (Elt F) ℓ) (c : Dev nD) : Valuation τ sig (Elt F) :=
  Function.update (V1 m c) (Proc.devRef .tc main_v18) (outV (insOf (V1 m)) c)

theorem W₂_out (m : (ℓ : Loc nD τ sig) → Buf (Elt F) ℓ) (c : Dev nD) : W₂ m c (Proc.devRef .tc main_v18) = outV (insOf (V1 m)) c := by
  unfold W₂; exact Function.update_self ..
theorem W₂_of (m : (ℓ : Loc nD τ sig) → Buf (Elt F) ℓ) (c : Dev nD) (b : DevRef τ sig) (h : b ≠ Proc.devRef .tc main_v18) : W₂ m c b = V1 m c b := by
  unfold W₂; exact Function.update_of_ne h ..

theorem enters (c : Dev nD) : iprop(Pipeline.scopedRest (Pipeline.pin (pcfgs (F := F)) adm 0).spec c ∗ (∃ r, prngReg c r)
      ∗ StableHlo.held (c.tc : Thread nD τ) ∅ (V c) ∗ opened V c) ⊢ (pdats V 0 c).Φ 0 := by
  rw [show (pdats V 0 c).Φ 0 = iprop(opened V c ∗ scratch c ∗ ∃ r, prngReg c r) from rfl, scratch_eq]
  iintro ⟨Hs, Hp, -, Ho⟩
  iframe

theorem held_none (c : Dev nD) (W : Valuation τ sig (Elt F)) : (StableHlo.held (c.tc : Thread nD τ) ∅ W : sProp 𝕄) = BI.emp := by
  unfold StableHlo.held; exact BI.bigSep_empty

theorem leaves (c : Dev nD) (W : Valuation τ sig (Elt F)) : (pdats V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ W ∗ Pipeline.ownSems0 osem c ∗ semVal (barCell c) 0) := by
  rw [show (pdats V 0 c).Φ (Fin.last _) = iprop(semVal (barCell c) 0 ∗ bigSep Finset.univ (fun k : Fin 28 => semVal (cell c k) 0) ∗ scratch c ∗ ∃ r, prngReg c r) from rfl,
    scratch_eq, ownSems_eq, held_none]
  iintro ⟨Hb, Hk, Hs, Hp⟩
  isplitl [Hs]; · iexact Hs
  isplitl [Hp]; · iexact Hp
  isplitr; · iempintro
  isplitl [Hk]; · iexact Hk
  iexact Hb

/-! ## The record -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem sem_small : ∀ (w : Fin 6) (s : Fin (spec0 w).nbuf), ((spec0 w).sem s).val < 6 := by decide

theorem cut (c : Dev nD) (t : Fin ((Pipeline.pin (pcfgs (F := F)) adm 0).N + 1)) (g : GSem nD τ sig) (i : Unit)
    (h : 0 < (pdats V 0 c).owed t g i) : i ∈ L g ∧ (0 : ℕ) < lv g i := by
  have e : (pdats V 0 c).owed t = if t.val = 0 then O₀ c else 0 := rfl
  rw [e] at h
  split at h
  · exact abv_O₀ c g i h
  · exact absurd h (Nat.lt_irrefl 0)

theorem cut_stage (c : Dev nD) (w : Fin 6) (s : Fin (spec0 w).nbuf) : lv ((c : Thread nD τ), .dma ((spec0 w).sem s)) () ≤ 0 := by
  have := sem_small w s
  show (if h : 6 ≤ ((spec0 w).sem s).val ∧ ((spec0 w).sem s).val - 6 < 28 then lvK ⟨((spec0 w).sem s).val - 6, h.2⟩ else 0) ≤ 0
  rw [dif_neg (fun h => by omega)]

theorem share_full (c : Dev nD) (w) : (pdats V 0 c).share w = fullShare := by
  unfold Dat.share; split <;> rfl

variable (m : (ℓ : Loc nD τ sig) → Buf (Elt F) ℓ)

theorem arr_out (c : Dev nD) : (dat (V1 m) c).arrAt (5 : Fin 6) cfg0.N = outV (insOf (V1 m)) c := by
  rw [show cfg0.N = t0_0.val + 1 from rfl, (dat (V1 m) c).arrAt_succ (5 : Fin 6) t0_0, if_pos (flush0_5 t0_0)]
  exact Memref.write_access_unit_zero_univ (Elt F) main_v18 (off := fun a => win0_5.index t0_0 a * main_v18.ty.shape.size a)
    (funext fun a => Nat.zero_mul _) _ _ _

theorem arr_after (c : Dev nD) (w : Fin 6) : (dat (V1 m) c).arrAt w cfg0.N = W₂ m c (Proc.devRef .tc (Pipeline.arrRef spec0 w)) := by
  match w with
  | ⟨0, _⟩ => exact ((dat (V1 m) c).arrAt_in (0 : Fin 6) rfl _).trans (W₂_of m c _ (StableHlo.devRef_ne_of_ne (by decide : main_arg0 ≠ main_v18))).symm
  | ⟨1, _⟩ => exact ((dat (V1 m) c).arrAt_in (1 : Fin 6) rfl _).trans (W₂_of m c _ (StableHlo.devRef_ne_of_ne (by decide : main_arg1 ≠ main_v18))).symm
  | ⟨2, _⟩ => exact ((dat (V1 m) c).arrAt_in (2 : Fin 6) rfl _).trans (W₂_of m c _ (StableHlo.devRef_ne_of_ne (by decide : main_v15 ≠ main_v18))).symm
  | ⟨3, _⟩ => exact ((dat (V1 m) c).arrAt_in (3 : Fin 6) rfl _).trans (W₂_of m c _ (StableHlo.devRef_ne_of_ne (by decide : main_v17 ≠ main_v18))).symm
  | ⟨4, _⟩ => exact ((dat (V1 m) c).arrAt_in (4 : Fin 6) rfl _).trans (W₂_of m c _ (StableHlo.devRef_ne_of_ne (by decide : main_arg4 ≠ main_v18))).symm
  | ⟨5, _⟩ => exact (arr_out m c).trans (W₂_out m c).symm
  | ⟨_ + 6, h⟩ => exact absurd h (Nat.not_lt.2 (Nat.le_add_left _ _))

/-- The buffers no window's array is. -/
abbrev restRefs : Finset (DevRef τ sig) := Pipeline.ucRefs τ sig \ Pipeline.arrRefs (τ := τ) (pcfgs (F := F) 0).spec

theorem out_arr : (Proc.devRef .tc main_v18 : DevRef τ sig) ∈ Pipeline.arrRefs (τ := τ) (pcfgs (F := F) 0).spec := by
  unfold Pipeline.arrRefs
  exact Finset.mem_map.mpr ⟨main_v18, Finset.mem_image.mpr ⟨(5 : Fin 6), Finset.mem_univ _, rfl⟩, rfl⟩

theorem rest_same (c : Dev nD) : ∀ b ∈ restRefs (F := F) \ ∅, W₂ m c b = V1 m c b := fun b hb =>
  W₂_of m c b fun e => (Finset.mem_sdiff.mp (Finset.mem_sdiff.mp hb).1).2 (e ▸ out_arr)

set_option backward.isDefEq.respectTransparency.types false in
/-- The region's record. -/
def reg0 : Pipeline.RegionSeg (pcfgs (F := F)) adm (pdats (V1 m)) () defs₀ 𝒱₀ L lv 0 :=
  Pipeline.RegionSeg.ofTalk (pcfgs (F := F)) adm (pdats (V1 m)) () defs₀ 𝒱₀ L lv 0 osem (by decide : Pipeline.OwnSemFacts spec0 osem)
    ∅ restRefs (Finset.empty_subset _) kit0 rfl (fun c => (body_holds (V1 m) c).loose)
    (fun _ => 0) O₀ (fun c => (zero_add _).symm) (fun _ => rfl) (fun _ => rfl) (share_full (V1 m))
    (V1 m) (W₂ m) (rest_same m)
    (talk (V1 m)) (fun c => semVal (barCell c) 0) (opened (V1 m)) (fun c => semVal (barCell c) 0)
    (opens (V1 m)) (enters (V1 m)) (fun c => leaves (V1 m) c (W₂ m c))
    (fun c => by iintro H; imodintro; iexact H)
    (fun _ => 0)
    ⟨fun c w s => by rw [L_tc]; exact Finset.mem_singleton_self _, fun c w s => cut_stage c w s, fun c t g i h => cut (V1 m) c t g i h⟩
    (fun _ => iprop(emp))
    (fun _ _ => rfl) (fun c w => arr_after m c w)

end Cert.Proof

end
-- ==== Proof.Launch.lean ====
/-
  The launch: the ghost state of the schedule made once for all eight devices and dealt out, each device with the tokens
  of the duties it pays and the credit of the units it waits for.
-/
module

public import proofs.«01_k».proof.Proof.Record

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch makes -/

theorem cell_eq_iff (c c' : Dev nD) (k k' : Fin 28) : cell c k = cell c' k' ↔ c = c' ∧ k = k' := by
  constructor
  · intro h
    exact ⟨congrArg (fun g : GSem nD τ sig => g.1.1) h, ownS_inj (SemLoc.dma.inj (congrArg Prod.snd h))⟩
  · rintro ⟨rfl, rfl⟩; rfl
theorem barCell_eq_iff (c c' : Dev nD) : barCell c = barCell c' ↔ c = c' :=
  ⟨fun h => congrArg (fun g : GSem nD τ sig => g.1.1) h, fun h => by rw [h]⟩
theorem cell_ne_bar (c c' : Dev nD) (k : Fin 28) : cell c k ≠ barCell c' := fun h => by cases congrArg Prod.snd h

def barEmb : Dev nD ↪ GSem nD τ sig := ⟨fun c => barCell c, fun _ _ h => (barCell_eq_iff _ _).mp h⟩
def cellEmb : Dev nD × Fin 28 ↪ GSem nD τ sig :=
  ⟨fun p => cell p.1 p.2, fun _ _ h => Prod.ext ((cell_eq_iff _ _ _ _).mp h).1 ((cell_eq_iff _ _ _ _).mp h).2⟩
def barTokEmb : Dev nD × Fin 3 ↪ GSem nD τ sig × ℕ × Fin 3 :=
  ⟨fun p => (barCell p.1, 0, p.2), fun _ _ h => Prod.ext ((barCell_eq_iff _ _).mp (congrArg Prod.fst h)) (congrArg (fun t : GSem nD τ sig × ℕ × Fin 3 => t.2.2) h)⟩
def cellTokEmb : Dev nD × Fin 28 ↪ GSem nD τ sig × ℕ × Fin 3 :=
  ⟨fun p => (cell p.1 p.2, 0, 0), fun _ _ h => cellEmb.injective (congrArg Prod.fst h)⟩

abbrev barCells : Finset (GSem nD τ sig) := Finset.univ.map barEmb
abbrev ownCells : Finset (GSem nD τ sig) := Finset.univ.map cellEmb
/-- Every duty of the schedule: three in each barrier cell, one in each transfer cell. -/
def allToks : Finset (GSem nD τ sig × ℕ × Fin 3) := Finset.univ.map barTokEmb ∪ Finset.univ.map cellTokEmb

theorem cells_disjoint : Disjoint (barCells : Finset (GSem nD τ sig)) ownCells := by
  rw [Finset.disjoint_left]
  intro g h₁ h₂
  obtain ⟨c, -, rfl⟩ := Finset.mem_map.mp h₁
  obtain ⟨p, -, h⟩ := Finset.mem_map.mp h₂
  exact cell_ne_bar _ _ _ h
theorem toks_disjoint : Disjoint (Finset.univ.map barTokEmb) (Finset.univ.map cellTokEmb) := by
  rw [Finset.disjoint_left]
  intro g h₁ h₂
  obtain ⟨c, -, rfl⟩ := Finset.mem_map.mp h₁
  obtain ⟨p, -, h⟩ := Finset.mem_map.mp h₂
  exact cell_ne_bar _ _ _ (congrArg Prod.fst h)

/-- The ghost state at launch: the pipeline library's, and that of the schedule. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- The schedule's ghost state, kept on device 0 until the launch deals it out. -/
def parked (c : Dev nD) : sProp 𝕄 := if c = 0 then BI.own (ER (launchOf barCells ownCells allToks)) else iprop(emp)

theorem parked_eq : bigSep Finset.univ (parked (F := F)) = BI.own (ER (launchOf barCells ownCells allToks)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

/-! ## Dealing it out -/

/-- The invariants of all the cells, and that every barrier cell is in its first round. -/
def records (K : GSem nD τ sig → ℕ) : sProp 𝕄 :=
  iprop(allInv (insOf (V1 m)) K ∗ bigSep Finset.univ (fun c : Dev nD => reached ER (barCell c) 0))

instance records_persistent (K : GSem nD τ sig → ℕ) : BI.Persistent (records m K) := by unfold records; infer_instance

theorem reached_bar (c : Dev nD) : (bigSep Finset.univ (fun c : Dev nD => reached ER (barCell c) 0) : sProp 𝕄) ⊢ reached ER (barCell c) 0 :=
  bigSep_elim (Φ := fun c : Dev nD => (reached ER (barCell c) 0 : sProp 𝕄)) (Finset.mem_univ c)

/-- The tokens of the duties device c pays. -/
def barDuties (c : Dev nD) : sProp 𝕄 :=
  iprop(dutyTok ER (barCell (bk c 1)) 0 0 ∗ dutyTok ER (barCell (fw c 1)) 0 1 ∗ dutyTok ER (barCell (fw c 4)) 0 2)
def cellDuties (c : Dev nD) : sProp 𝕄 :=
  bigSep Finset.univ (fun t : Fin 14 => iprop(dutyTok ER (cell c (kS t)) 0 0 ∗ dutyTok ER (cell (pe t c) (kR t)) 0 0))
/-- The credit of the units device c waits for. -/
def credits (c : Dev nD) : sProp 𝕄 :=
  iprop(cred (tallyAt (barCell c) () 3) ∗ bigSep Finset.univ (fun t : Fin 14 => cred (tallyAt (cell c (kR t)) () N)))

/-- Device c's own part of what the launch deals out. -/
def part (c : Dev nD) : sProp 𝕄 :=
  iprop(atPos ER (barCell c) 0 ∅ 0 ∗ bigSep Finset.univ (fun k : Fin 28 => openTok ER (cell c k)) ∗ barDuties c ∗ cellDuties c)

theorem talk_intro (K : GSem nD τ sig → ℕ) (c : Dev nD) : iprop(records m K ∗ part c ∗ credits c) ⊢ talk (V1 m) c := by
  unfold records part credits talk barToks barDuties cellDuties
  iintro ⟨⟨#HI, #HR⟩, ⟨Ha, Ho, ⟨H0, H1, H2⟩, Ht⟩, Hc, Hcs⟩
  isplitr
  · iexists K; iexact HI
  isplitl [Ha H0 H1 H2 Hc]
  · isplitl [H0]; · iexact H0
    isplitr; · iapply (reached_bar (F := F) (bk c 1)); iexact HR
    isplitl [H1]; · iexact H1
    isplitr; · iapply (reached_bar (F := F) (fw c 1)); iexact HR
    isplitl [H2]; · iexact H2
    isplitr; · iapply (reached_bar (F := F) (fw c 4)); iexact HR
    isplitl [Hc] <;> iassumption
  isplitl [Ho]; · iexact Ho
  isplitl [Ht] <;> iassumption

theorem bk_inj : Function.Injective (fun c : Dev nD => bk c 1) := by decide
theorem fw_inj : Function.Injective (fun c : Dev nD => fw c 1) := by decide
theorem an_inj : Function.Injective (fun c : Dev nD => fw c 4) := by decide
theorem pe_inj (t : Fin 14) : Function.Injective (pe t) := by revert t; decide

/-- A family over the devices, read at the images of an injective map. -/
theorem bigSep_inj {α : Type} [Fintype α] {f : α → α} (hf : Function.Injective f) (Φ : α → sProp 𝕄) :
    bigSep Finset.univ Φ = bigSep Finset.univ (fun a => Φ (f a)) :=
  bigSep_univ_equiv (Equiv.ofBijective f (Finite.injective_iff_bijective.mp hf)) Φ

theorem bar_around : bigSep Finset.univ (fun p : Dev nD × Fin 3 => (dutyTok ER (barCell p.1) 0 p.2 : sProp 𝕄))
    = bigSep Finset.univ (fun c : Dev nD => barDuties c) := by
  have h3 (c : Dev nD) : bigSep Finset.univ (fun d : Fin 3 => (dutyTok ER (barCell c) 0 d : sProp 𝕄))
      = iprop(dutyTok ER (barCell c) 0 0 ∗ dutyTok ER (barCell c) 0 1 ∗ dutyTok ER (barCell c) 0 2) :=
    bigSep_univ_eq_bigSepL [0, 1, 2] (by decide) (by decide) _
  unfold barDuties
  rw [bigSep_univ_prod, bigSep_congr (fun c _ => h3 c), bigSep_sep', bigSep_sep', bigSep_sep', bigSep_sep',
    bigSep_inj bk_inj (fun c : Dev nD => (dutyTok ER (barCell c) 0 0 : sProp 𝕄)),
    bigSep_inj fw_inj (fun c : Dev nD => (dutyTok ER (barCell c) 0 1 : sProp 𝕄)),
    bigSep_inj an_inj (fun c : Dev nD => (dutyTok ER (barCell c) 0 2 : sProp 𝕄))]

theorem pair_inj : Function.Injective (fun p : Dev nD × Fin 14 => (pe p.2 p.1, p.2)) := fun p q h => by
  have h1 : pe p.2 p.1 = pe q.2 q.1 := (Prod.mk.inj h).1
  have h2 : p.2 = q.2 := (Prod.mk.inj h).2
  rw [h2] at h1
  exact Prod.ext (pe_inj _ h1) h2

theorem cell_around : bigSep Finset.univ (fun p : Dev nD × Fin 28 => (dutyTok ER (cell p.1 p.2) 0 0 : sProp 𝕄))
    = bigSep Finset.univ (fun c : Dev nD => cellDuties c) := by
  unfold cellDuties
  rw [bigSep_univ_prod, bigSep_congr (fun c _ => bigSep_cells (fun k : Fin 28 => (dutyTok ER (cell c k) 0 0 : sProp 𝕄))), bigSep_sep',
    ← bigSep_univ_prod (fun p : Dev nD × Fin 14 => (dutyTok ER (cell p.1 (kR p.2)) 0 0 : sProp 𝕄)),
    bigSep_inj pair_inj, bigSep_univ_prod, ← bigSep_sep']
  exact bigSep_congr fun c _ => (bigSep_sep' _ _ _).symm

theorem toks_dealt : bigSep allToks (fun x => (dutyTok ER x.1 x.2.1 x.2.2 : sProp 𝕄))
    = iprop(bigSep Finset.univ (fun c : Dev nD => barDuties c) ∗ bigSep Finset.univ (fun c : Dev nD => cellDuties c)) := by
  unfold allToks
  rw [bigSep_union toks_disjoint, bigSep_map, bigSep_map, ← bar_around, ← cell_around]
  rfl

theorem inv_dealt (I : Ins F) (K : GSem nD τ sig → ℕ) : bigSep (barCells ∪ ownCells) (fun g => (cellInv ER (sched I) (K g) g : sProp 𝕄)) = allInv I K := by
  unfold allInv
  rw [bigSep_union cells_disjoint, bigSep_map, bigSep_map]
  rfl

/-! ## The credit -/

theorem owesL_bar (d c : Dev nD) : ∀ l : List (Fin 14), owesL d l (barCell c) () = 0
  | [] => rfl
  | t :: l => by
    show owesL d l (barCell c) () + tallyAt (cell (pe t d) (kR t)) () N (barCell c) () = 0
    rw [owesL_bar d c l, tallyAt_apply, if_neg (fun h => cell_ne_bar _ _ _ h.1.symm)]

theorem owesL_cell (d c : Dev nD) (k : Fin 28) : ∀ l : List (Fin 14),
    owesL d l (cell c k) () = l.countP (fun t => decide (c = pe t d ∧ k = kR t)) * N
  | [] => (Nat.zero_mul N).symm
  | t :: l => by
    show owesL d l (cell c k) () + tallyAt (cell (pe t d) (kR t)) () N (cell c k) () = _
    rw [owesL_cell d c k l, tallyAt_apply, List.countP_cons, Nat.add_mul]
    by_cases h : c = pe t d ∧ k = kR t
    · rw [if_pos ⟨(cell_eq_iff _ _ _ _).mpr h, rfl⟩, if_pos (decide_eq_true h), Nat.one_mul]
    · rw [if_neg (fun h' => h ((cell_eq_iff _ _ _ _).mp h'.1)), if_neg (fun h' => h (of_decide_eq_true h')), Nat.zero_mul]

theorem bar_tally (p c : Dev nD) : (tallyAt (barCell p) () 1 : CellTallies nD τ sig Unit) (barCell c) () = if c = p then 1 else 0 := by
  rw [tallyAt_apply]
  by_cases h : c = p
  · rw [if_pos ⟨(barCell_eq_iff _ _).mpr h, rfl⟩, if_pos h]
  · rw [if_neg (fun h' => h ((barCell_eq_iff _ _).mp h'.1)), if_neg h]
theorem bar_tally_cell (p c : Dev nD) (k : Fin 28) : (tallyAt (barCell p) () 1 : CellTallies nD τ sig Unit) (cell c k) () = 0 := by
  rw [tallyAt_apply, if_neg (fun h => cell_ne_bar _ _ _ h.1)]

theorem owed_bar (d c : Dev nD) : O₀ d (barCell c) ()
    = (if c = fw d 4 then 1 else 0) + (if c = fw d 1 then 1 else 0) + (if c = bk d 1 then 1 else 0) := by
  show owesL d order (barCell c) () + tallyAt (barCell (fw d 4)) () 1 (barCell c) () + tallyAt (barCell (fw d 1)) () 1 (barCell c) ()
    + tallyAt (barCell (bk d 1)) () 1 (barCell c) () = _
  rw [owesL_bar, bar_tally, bar_tally, bar_tally, Nat.zero_add]
theorem owed_cell (d c : Dev nD) (k : Fin 28) : O₀ d (cell c k) () = order.countP (fun t => decide (c = pe t d ∧ k = kR t)) * N := by
  show owesL d order (cell c k) () + tallyAt (barCell (fw d 4)) () 1 (cell c k) () + tallyAt (barCell (fw d 1)) () 1 (cell c k) ()
    + tallyAt (barCell (bk d 1)) () 1 (cell c k) () = _
  rw [owesL_cell, bar_tally_cell, bar_tally_cell, bar_tally_cell]
  simp only [Nat.add_zero]

theorem three_units : ∀ c : Dev nD, (∑ d : Dev nD, ((if c = fw d 4 then 1 else 0) + (if c = fw d 1 then 1 else 0) + (if c = bk d 1 then 1 else 0))) = 3 := by decide
theorem one_copy : ∀ (c : Dev nD) (t : Fin 14), (∑ d : Dev nD, order.countP (fun t' => decide (c = pe t' d ∧ kR t = kR t'))) = 1 := by decide +kernel

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, three_units]
theorem credit_cell (c : Dev nD) (t : Fin 14) :
    tallyOn (cell c (kR t)) (launchCredit (Pipeline.owing O₀) 0 (cell c (kR t))) = (tallyAt (cell c (kR t)) () N : CellTallies nD τ sig Unit) := by
  unfold tallyAt; refine congrArg _ (Finsupp.ext fun u => ?_); cases u
  rw [Pipeline.launchCredit_owing, Finsupp.single_eq_same, Finset.sum_congr rfl fun d _ => owed_cell d c (kR t), ← Finset.sum_mul, one_copy, Nat.one_mul]

def rcvEmb : Fin 14 ↪ SemLoc sig := ⟨fun t => .dma (ownS (kR t)), fun _ _ h => kR_inj (ownS_inj (SemLoc.dma.inj h))⟩

theorem credits_intro (c : Dev nD) : (Pipeline.launchCred O₀ c : sProp 𝕄) ⊢ credits c := by
  unfold Pipeline.launchCred credits
  rw [bigSep_univ_at _ (SemLoc.reg barS), credit_bar]
  refine sep_mono_right ?_
  rw [← bigSep_congr fun t _ => congrArg cred (credit_cell c t)]
  refine BI.Entails.trans (bigSep_subset (t := Finset.univ.map rcvEmb) fun s hs => ?_) ?_
  · obtain ⟨t, -, rfl⟩ := Finset.mem_map.mp hs
    exact Finset.mem_erase.mpr ⟨(fun h => by cases h), Finset.mem_univ _⟩
  · rw [bigSep_map]
    exact BI.Entails.refl _

/-! ## The thread states -/

/-- What rides beside the buffers before the kernel's region. -/
def before (c : Dev nD) : sProp 𝕄 :=
  iprop((talk (V1 m) c ∗ ∃ r, prngReg c r) ∗ ∃ W, owes (c : Thread nD τ) (O₀ c) W)

theorem arr_uc : Pipeline.arrRefs (τ := τ) (pcfgs (F := F) 0).spec ⊆ Pipeline.ucRefs τ sig := by
  intro b hb
  unfold Pipeline.arrRefs at hb
  obtain ⟨r, hr, rfl⟩ := Finset.mem_map.mp hb
  obtain ⟨w, -, rfl⟩ := Finset.mem_image.mp hr
  exact Finset.mem_filter.mpr ⟨StableHlo.devRef_mem_tcRefs _, (by decide : ∀ w : Fin 6, ¬ (Proc.devRef (τ := τ) .tc (Pipeline.arrRef spec0 w)).isScoped = true) w⟩

theorem reg_pre (c : Dev nD) : iprop(StableHlo.held (c : Thread nD τ) (Pipeline.ucRefs τ sig) (V1 m c) ∗ before m c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (restRefs (F := F)) (V1 m c) ∗ emp) ∗ talk (V1 m) c ∗ ∃ Wd, owes (c : Thread nD τ) (0 + O₀ c) Wd)
  rw [zero_add, StableHlo.held_sub_split (c.tc : Thread nD τ) (arr_uc (F := F)) (V1 m c)]
  unfold before
  iintro ⟨⟨Ha, Hr⟩, ⟨Ht, Hp⟩, HO⟩
  isplitl [Ha]; · iexact Ha
  isplitl [Hp]; · iexact Hp
  isplitl [Hr]
  · isplitl [Hr]; · iexact Hr
    iempintro
  isplitl [Ht] <;> iassumption

theorem reg_post (c : Dev nD) : (reg0 m).post c
    ⊢ iprop((StableHlo.held (c : Thread nD τ) (Pipeline.ucRefs τ sig) (W₂ m c) ∗ semVal (barCell c) 0)
      ∗ ∃ W, owes (c : Thread nD τ) (0 : CellTallies nD τ sig Unit) W) := by
  show iprop(StableHlo.held (c.tc : Thread nD τ) (Pipeline.arrRefs (τ := τ) (pcfgs (F := F) 0).spec) (W₂ m c) ∗ (∃ r, prngReg c r)
    ∗ (StableHlo.held (c.tc : Thread nD τ) (restRefs (F := F)) (W₂ m c) ∗ emp) ∗ semVal (barCell c) 0 ∗ ∃ Wd, owes (c : Thread nD τ) (0 : CellTallies nD τ sig Unit) Wd) ⊢ _
  rw [StableHlo.held_sub_split (c.tc : Thread nD τ) (arr_uc (F := F)) (W₂ m c)]
  iintro ⟨Ha, -, ⟨Hr, -⟩, Hb, HO⟩
  isplitr [HO]
  · isplitr [Hb]
    · isplitl [Ha] <;> iassumption
    iexact Hb
  iexact HO

theorem unscoped_eq : ∀ sm : SemLoc sig, sm.isScoped .tc = false → sm = .reg barS := by decide

theorem unscoped_filter : (Finset.univ.filter fun sm : SemLoc sig => ¬ sm.isScoped .tc) = {SemLoc.reg barS} := by decide

theorem unscopedSems_eq (c : Dev nD) : (unscopedSems0 c : sProp 𝕄) = semVal (barCell c) 0 := by
  unfold unscopedSems0
  rw [unscoped_filter, BI.bigSep_singleton]

/-- What a device holds at the start of the program. -/
def atStart (c : Dev nD) : sProp 𝕄 := iprop(StableHlo.held (c : Thread nD τ) (Pipeline.ucRefs τ sig) (V0 m c) ∗ before m c)

/-- What of a device's launch holdings the deal leaves alone. -/
def kept (c : Dev nD) : sProp 𝕄 :=
  iprop(StableHlo.held (c : Thread nD τ) (Pipeline.ucRefs τ sig) (V0 m c) ∗ credits c ∗ owes (c : Thread nD τ) (O₀ c) ∅ ∗ ∃ r, prngReg c r)

theorem atStart_intro (K : GSem nD τ sig → ℕ) (c : Dev nD) : iprop(records m K ∗ (part c ∗ kept m c)) ⊢ atStart m c := by
  unfold kept atStart before
  iintro ⟨#HR, Hl, Hh, Hc, HO, Hp⟩
  isplitl [Hh]; · iexact Hh
  isplitr [HO]
  · isplitr [Hp]
    · iapply (talk_intro m K c)
      isplitr; · iexact HR
      isplitl [Hl] <;> iassumption
    iexact Hp
  · iexists ∅; iexact HO

/-- What each device gets from the launch, regrouped. -/
theorem launched (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(kept m c ∗ (semVal (barCell c) 0 ∗ parked c)) : sProp 𝕄) := by
  rw [show unscopedBufs c (fun b => m ((c : Thread nD τ).loc b)) = StableHlo.held (c : Thread nD τ) (Pipeline.ucRefs τ sig) (V0 m c)
      from Pipeline.unscopedBufs_held (Ix := Unit) (Name := ℕ) (U := UU) (Lvl := ℕ) c (V0 m c), unscopedSems_eq]
  unfold kept
  iintro ⟨Hh, Hus, HO, Hcr, Hp, HG⟩
  ihave Hc := (credits_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The launch makes every device's start. -/
theorem starts :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (atStart m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hop : bigSep ownCells (fun g => (openTok ER g : sProp 𝕄))
      ⊢ bigSep Finset.univ (fun c : Dev nD => bigSep Finset.univ (fun k : Fin 28 => (openTok ER (cell c k) : sProp 𝕄))) :=
    Entails.of_eq (by rw [bigSep_map, bigSep_univ_prod]; rfl)
  have hun {Φ Ψ : Dev nD → sProp 𝕄} : bigSep Finset.univ (fun c => iprop(Φ c ∗ Ψ c)) ⊢ iprop(bigSep Finset.univ Φ ∗ bigSep Finset.univ Ψ) :=
    Entails.of_eq (bigSep_sep' _ _ _)
  have hpr {Φ Ψ : Dev nD → sProp 𝕄} : iprop(bigSep Finset.univ Φ ∗ bigSep Finset.univ Ψ) ⊢ bigSep Finset.univ (fun c => iprop(Φ c ∗ Ψ c)) :=
    Entails.of_eq (bigSep_sep' _ _ _).symm
  have hla : bigSep Finset.univ (fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ parked c))
      ⊢ (bigSep Finset.univ (fun c : Dev nD => iprop(kept m c ∗ (semVal (barCell c) 0 ∗ parked c))) : sProp 𝕄) := bigSep_mono fun c _ => launched m ρ c
  iintro ⟨H, -⟩
  ihave H := hla $$ H
  ihave H := hun $$ H; icases H with ⟨HB, H⟩
  ihave H := hun $$ H; icases H with ⟨Hv, HG⟩
  ihave Hu := (Entails.of_eq (parked_eq (F := F))) $$ HG
  imod (Rounds.fund_launch ER (sched (insOf (V1 m))) cells_disjoint (fun g _ h => h) allToks) $$ [Hv Hu] with ⟨%K, -, Hinv, Hr, Hat, Hopen, Htok⟩
  · isplitl [Hv]
    · iapply hv $$ Hv
    · iexact Hu
  imodintro
  ihave #Hinv' := (Entails.of_eq (inv_dealt (insOf (V1 m)) K)) $$ Hinv
  ihave #Hr' := hre $$ Hr
  ihave Htok := (Entails.of_eq (toks_dealt (F := F))) $$ Htok
  icases Htok with ⟨Htb, Htc⟩
  iapply (bigSep_with_persistent (R := records m K) (Φ := fun c => iprop(part c ∗ kept m c)) fun c _ => atStart_intro m K c)
  isplitr
  · unfold records
    isplitr; · iexact Hinv'
    iexact Hr'
  iapply hpr
  isplitr [HB]
  · unfold part
    iapply hpr; isplitl [Hat]; · iapply hat $$ Hat
    iapply hpr; isplitl [Hopen]; · iapply hop $$ Hopen
    iapply hpr
    isplitl [Htb] <;> iassumption
  · iexact HB

end Cert.Proof

end
-- ==== Proof.Run.lean ====
/-
  The run of the whole program: the host part of each device, then the kernel, to the end.
-/
module

public import proofs.«01_k».proof.Proof.Launch

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The host part of the program, on device c. -/
def hostSeg (c : Dev nD) : Pipeline.HostSeg (Ix := Unit) (Name := ℕ) (U := UU) (Lvl := ℕ) (pcfgs (F := F)) defs₀ 𝒱₀ L lv :=
  Pipeline.HostSeg.ofOps _ _ _ _ _ (Pipeline.ucRefs τ sig) (hostOps0 c)
    (fun op h => Pipeline.sub_ucRefs op ((List.forall_iff_forall_mem.mp (hostOps0_sub c)) op h))
    (fun op h => (List.forall_iff_forall_mem.mp (hostOps0_fresh c)) op h) (V0 m) (before m)

/-- The program on device c: its host part, then the kernel. -/
def items (c : Dev nD) : List (Pipeline.Seg (pcfgs (F := F)) adm (pdats (V1 m)) () defs₀ 𝒱₀ L lv) :=
  [.host (hostSeg m c), .region (reg0 m)]

/-- The buffers of a device at the end: the result, and every argument as launched. -/
def Ends (c : Dev nD) (s : MemSt nD τ sig (Elt F)) : Prop :=
  s.mem ((c.tc : Thread nD τ).loc main_v18) = outV (insOf (V1 m)) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem W₂_arg (c : Dev nD) (r : Ref sig .tc) (h : r ≠ main_v18) (h' : r ∉ hostOps0_W) :
    W₂ m c (Proc.devRef .tc r) = m ((c.tc : Thread nD τ).loc r) :=
  (W₂_of m c _ (StableHlo.devRef_ne_of_ne h)).trans ((V1_of m c r h').trans rfl)

theorem arg_uc (r : Ref sig .tc) (h : ¬ (Proc.devRef (τ := τ) .tc r).isScoped = true) : Proc.devRef .tc r ∈ Pipeline.ucRefs τ sig :=
  Finset.mem_filter.mpr ⟨StableHlo.devRef_mem_tcRefs r, h⟩

theorem ends_read (c : Dev nD) (s' : Phys nD τ sig (Elt F)) :
    iprop((StableHlo.held (c : Thread nD τ) (Pipeline.ucRefs τ sig) (W₂ m c) ∗ semVal (barCell c) 0) ∗ SI s')
      ⊢ (|={Set.univ}=> iprop(⌜Ends m c s'.mem ∧ s'.mem.sem (barCell c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (W₂ m c) s') $$ [Hh HSI]
  · isplitl [Hh] <;> iassumption
  icases Hr with ⟨%h, HSI⟩
  imodintro
  isplitr
  · ipureintro
    exact ⟨⟨(h _ (arg_uc main_v18 (by decide))).trans (W₂_out m c),
      (h _ (arg_uc main_arg0 (by decide))).trans (W₂_arg m c main_arg0 (by decide) (by decide)),
      (h _ (arg_uc main_arg1 (by decide))).trans (W₂_arg m c main_arg1 (by decide) (by decide)),
      (h _ (arg_uc main_arg2 (by decide))).trans (W₂_arg m c main_arg2 (by decide) (by decide)),
      (h _ (arg_uc main_arg3 (by decide))).trans (W₂_arg m c main_arg3 (by decide) (by decide)),
      (h _ (arg_uc main_arg4 (by decide))).trans (W₂_arg m c main_arg4 (by decide) (by decide))⟩, by simpa using hb⟩
  · iexact HSI

set_option backward.isDefEq.respectTransparency.types false in
/-- From any memory with every counter at zero the program runs to the end on all eight devices, each holding the result
    and its arguments as launched, and every counter is at zero again. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats (V1 m)) () cellOf_inj EP defs₀ 𝒱₀ L lv m ρ main (items m)
    (fun c Q => by
      rewrite [main_chain c, Pipeline.Seg.run_eq_chain,
        show (items m c).map Pipeline.Seg.prog = [
          StableHlo.seq (hostOps0 c),
          Prog.lift (.customCall (Pipeline.entry 0) ()) ] from rfl]
      dsimp (config := { failIfUnchanged := false }) only
      exact .rfl)
    (fun c => by simp only [items, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_eq]; iexact HX)
    (T₀ := atStart m)
    (Tₙ := fun c => iprop(StableHlo.held (c : Thread nD τ) (Pipeline.ucRefs τ sig) (W₂ m c) ∗ semVal (barCell c) 0))
    (hch := fun c => ⟨.rfl, reg_pre m c, reg_post m c⟩)
    (hinit := starts m ρ)
    (QY := fun c s => Ends m c s ∧ s.sem (barCell c) = 0)
    (hfin := ends_read m)
    (hQ := fun s h hs => ⟨fun c => (h c).1,
      sem_eq_zero hs fun c sm hsm => by
        obtain rfl := unscoped_eq sm hsm
        exact (h c).2⟩)

end Cert.Proof

end
-- ==== Proof.Soft.lean ====
/-
  The attention of the problem, written as sums, and the one fact of the softmax that the proof uses: the mean of
  values of which nothing is known, weighted by the exponentials of real scores, is the same whether the scores are
  lowered by a real number or not.
-/
module

public import Idealize.ShloMosaic.PureOps.Ideal
public import Idealize.ShloMosaic.PureOps.Ideal.Laws

@[expose] public section

noncomputable section

namespace Cert.Proof

open Idealize.ShloMosaic

/-! ## The bit patterns of the two programs' constants -/

theorem ofBits_eighth : Ideal.ofBits .f32 0x3E000000#32 = ((1 / 8 : ℝ) : EReal) := by
  simp [Ideal.ofBits, Ideal.ieee, -EReal.coe_mul]; norm_num

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

/-! ## Sums -/

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  refine s.induction_on (by simp) fun a t ha ih => ?_
  rw [Finset.sum_insert ha, Finset.sum_insert ha, ih, EReal.coe_add]

/-- A factor that is a nonnegative real goes into a sum of any extended reals. -/
theorem sum_mul_real {ι : Type} (s : Finset ι) (f : ι → EReal) {a : ℝ} (ha : 0 ≤ a) :
    (∑ i ∈ s, f i) * (a : EReal) = ∑ i ∈ s, f i * (a : EReal) := by
  classical
  refine s.induction_on (by simp) fun b t hb ih => ?_
  rw [Finset.sum_insert hb, Finset.sum_insert hb,
    EReal.right_distrib_of_nonneg_of_ne_top (EReal.coe_nonneg.mpr ha) (EReal.coe_ne_top a), ih]

/-- The maximum of reals, of which there is one at least, is real. -/
theorem max_real {n : ℕ} (hn : 0 < n) (s : Fin n → ℝ) :
    ∃ M : ℝ, (Finset.univ : Finset (Fin n)).fold max ⊥ (fun j => ((s j : ℝ) : EReal)) = M := by
  obtain ⟨j, -, hj⟩ := Finset.exists_mem_eq_sup (Finset.univ : Finset (Fin n)) ⟨⟨0, hn⟩, Finset.mem_univ _⟩
    (fun j => ((s j : ℝ) : EReal))
  exact ⟨s j, hj⟩

/-! ## The attention -/

/-- The mean of the values v weighted by the exponentials of the scores s. -/
def mean {n : ℕ} (s : Fin n → ℝ) (v : Fin n → EReal) : EReal :=
  Ideal.div (∑ j, Ideal.exp (s j : EReal) * v j) (∑ j, Ideal.exp (s j : EReal))

/-- The softmax at real scores lowered by a real number, times any values, summed: the sum of the exponentials of
    the scores themselves times the values, over the sum of the exponentials. -/
theorem softmax_eq {n : ℕ} (hn : 0 < n) (s : Fin n → ℝ) (M : ℝ) (v : Fin n → EReal) :
    ∑ j, v j * Ideal.div (Ideal.exp ((s j : EReal) - M)) (∑ j, Ideal.exp ((s j : EReal) - M))
      = mean s v := by
  have hne : (Finset.univ : Finset (Fin n)).Nonempty := ⟨⟨0, hn⟩, Finset.mem_univ _⟩
  have hZ : 0 < ∑ j, Real.exp (s j) := Finset.sum_pos (fun _ _ => Real.exp_pos _) hne
  have hlow : ∀ j, Ideal.exp ((s j : EReal) - M) = ((Real.exp (s j) * Real.exp (-M) : ℝ) : EReal) := fun j => by
    rw [← Real.exp_add, ← sub_eq_add_neg, ← EReal.coe_sub]; rfl
  have hexp : ∀ j, Ideal.exp (s j : EReal) = ((Real.exp (s j) : ℝ) : EReal) := fun j => rfl
  unfold mean
  simp only [hlow, hexp, coe_sum, ← Finset.sum_mul]
  rw [Ideal.div_coe hZ.ne', sum_mul_real _ _ (one_div_nonneg.mpr hZ.le)]
  refine Finset.sum_congr rfl fun j _ => ?_
  rw [Ideal.div_coe (mul_pos hZ (Real.exp_pos _)).ne', ← EReal.coe_mul, mul_comm ((Real.exp (s j) : ℝ) : EReal),
    mul_assoc (v j), ← EReal.coe_mul]
  congr 2
  field_simp

/-- Column e of head h. -/
def col (h : Fin 32) (e : Fin 64) : Fin 2048 := ⟨h.val * 64 + e.val, by omega⟩
/-- The head that column t belongs to, and its place there. -/
def hd (t : Fin 2048) : Fin 32 := ⟨t.val / 64, by omega⟩
def el (t : Fin 2048) : Fin 64 := ⟨t.val % 64, by omega⟩

section Attention

variable (x : Fin 16 → Fin 128 → Fin 512 → ℝ) (w : Fin 512 → Fin 2048 → ℝ) (k : Fin 16 → Fin 128 → Fin 32 → Fin 64 → ℝ)
  (v : Fin 16 → Fin 128 → Fin 32 → Fin 64 → EReal) (wo : Fin 2048 → Fin 512 → EReal)

/-- The query at place i of batch entry b, in column t. -/
def query (b : Fin 16) (i : Fin 128) (t : Fin 2048) : ℝ := ∑ d, x b i d * w d t

/-- The score of key j for query i, in head h of batch entry b. -/
def score (b : Fin 16) (h : Fin 32) (i j : Fin 128) : ℝ := (∑ e, query x w b i (col h e) * k b j h e) * (1 / 8)

/-- The output of the heads at place i of batch entry b, in column t. -/
def context (b : Fin 16) (i : Fin 128) (t : Fin 2048) : EReal := mean (score x w k b (hd t) i) fun j => v b j (hd t) (el t)

/-- The result at place i of batch entry b, in column o. -/
def result (b : Fin 16) (i : Fin 128) (o : Fin 512) : EReal := ∑ t, context x w k v b i t * wo t o

end Attention

end Cert.Proof
-- ==== Proof.RVal.lean ====
/-
  What the reference computes, at an index: the attention of Soft.lean.
-/
module

public import proofs.«01_k».proof.Proof.Gen.ReferenceIdeal
public import proofs.«01_k».proof.Proof.Gen.ReferenceIdeal.Run
public import proofs.«01_k».proof.Proof.Soft
public import Idealize.ShloMosaic.Lib.Pointwise

@[expose] public section

noncomputable section

namespace Cert.Proof.Ref

open Cert.ReferenceIdeal Cert.ReferenceIdeal.Gen
open Idealize.ShloMosaic Idealize.ShloMosaic.TcCoe

/-- The reference's mask: which keys a query attends to, by the distance of their places. -/
def near : IVec S128x128 1 :=
  ori (cmpi .sle (absi (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
      (broadcastInDim S128x128 ![] bcast_S_S128x128 (constantI S_ 32 128#32)))
    (ori (broadcastInDim S128x128 ![0, 1] bcast_S1x128_S128x128_0_1 (cmpi .slt (broadcastInDim S1x128 ![1] bcast_S128_S1x128_1 (iotaInDim S128 32 0))
        (broadcastInDim S1x128 ![] bcast_S_S1x128 (constantI S_ 32 32#32))))
      (broadcastInDim S128x128 ![0, 1] bcast_S128x1_S128x128_0_1 (cmpi .slt (broadcastInDim S128x1 ![0] bcast_S128_S128x1_0 (iotaInDim S128 32 0))
        (broadcastInDim S128x1 ![] bcast_S_S128x1 (constantI S_ 32 32#32)))))

/-- Which queries attend to any key. -/
def anyNear : IVec S128 1 := Host.reduce IntOp.ori near (constantI S_ 1 0#1) reducesTo_S128x128_S128_d1 h_S_

variable (x : FVec Ideal S16x128x512 .f32) (wq : FVec Ideal S512x2048 .f32) (k v : FVec Ideal S16x128x32x64 .f32)
  (wo : FVec Ideal S2048x512 .f32)

/-- The reference's scores, masked. -/
def scores : FVec Ideal S16x32x128x128 .f32 :=
  select (broadcastInDim S16x32x128x128 ![0, 1, 2, 3] bcast_S1x1x128x128_S16x32x128x128_0_1_2_3 (broadcastInDim S1x1x128x128 ![2, 3] bcast_S128x128_S1x1x128x128_2_3 near))
    (mulf (Host.dotGeneral dot_S16x128x32x64_S16x128x32x64_S16x32x128x128_3_3_1_1_02_02 none
        (shapeCast _ (Host.dotGeneral dot_S16x128x512_S512x2048_S16x128x2048_2_0_01_1_n_n none x wq) shapeCasts_S16x128x2048_S16x128x32x64) k)
      (broadcastInDim S16x32x128x128 ![] bcast_S_S16x32x128x128 (constant S_ .f32 0x3E000000#32)))
    (broadcastInDim S16x32x128x128 ![] bcast_S_S16x32x128x128 (id (constant S_ .f32 0xCE6E6B28#32)))

/-- The exponentials of the scores s, each lowered by the maximum of its row. -/
def lowered (s : FVec Ideal S16x32x128x128 .f32) : FVec Ideal S16x32x128x128 .f32 :=
  Host.exp (subf s (broadcastInDim S16x32x128x128 ![0, 1, 2, 3] bcast_S16x32x128x1_S16x32x128x128_0_1_2_3
    (broadcastInDim S16x32x128x1 ![0, 1, 2] bcast_S16x32x128_S16x32x128x1_0_1_2
      (Host.reduce FloatOps.maximumf s (constant S_ .f32 0xFF800000#32) reducesTo_S16x32x128x128_S16x32x128_d3 h_S_))))

/-- The weights: the exponentials p over the sums of their rows. -/
def probs (p : FVec Ideal S16x32x128x128 .f32) : FVec Ideal S16x32x128x128 .f32 :=
  select (broadcastInDim S16x32x128x128 ![0, 1, 2, 3] bcast_S1x1x128x1_S16x32x128x128_0_1_2_3 (broadcastInDim S1x1x128x1 ![2] bcast_S128_S1x1x128x1_2 anyNear))
    (Host.divf p (broadcastInDim S16x32x128x128 ![0, 1, 2, 3] bcast_S16x32x128x1_S16x32x128x128_0_1_2_3
      (select (broadcastInDim S16x32x128x1 ![0, 1, 2, 3] bcast_S1x1x128x1_S16x32x128x1_0_1_2_3 (broadcastInDim S1x1x128x1 ![2] bcast_S128_S1x1x128x1_2 anyNear))
        (broadcastInDim S16x32x128x1 ![0, 1, 2] bcast_S16x32x128_S16x32x128x1_0_1_2
          (Host.reduceAdd p (constant S_ .f32 0x00000000#32) reducesTo_S16x32x128x128_S16x32x128_d3 h_S_))
        (broadcastInDim S16x32x128x1 ![] bcast_S_S16x32x128x1 (id (constant S_ .f32 0x3F800000#32))))))
    (broadcastInDim S16x32x128x128 ![] bcast_S_S16x32x128x128 (id (constant S_ .f32 0x00000000#32)))

/-- The values weighted by w, through the output weights. -/
def outOf (w : FVec Ideal S16x32x128x128 .f32) : FVec Ideal S16x128x512 .f32 :=
  Host.dotGeneral dot_S16x128x2048_S2048x512_S16x128x512_2_0_01_1_n_n none
    (shapeCast _ (transpose S16x128x32x64 [0, 3, 1, 2]
      (Host.dotGeneral dot_S16x128x32x64_S16x32x128x128_S16x32x64x128_1_3_3_2_02_01 none v w)
      transposes_S16x32x64x128_S16x128x32x64_0_3_1_2) shapeCasts_S16x128x32x64_S16x128x2048) wo

set_option maxRecDepth 8192 in
/-- What the reference computes, in these parts. -/
theorem res_eq (m : (ℓ : Loc nD τ sig) → Buf (Elt Ideal) ℓ) (c : Dev nD) :
    Value.res_main_v42 m c = outOf (m ((c.tc : Thread nD τ).loc main_arg3)) (m ((c.tc : Thread nD τ).loc main_arg4))
      (probs (lowered (scores (m ((c.tc : Thread nD τ).loc main_arg0)) (m ((c.tc : Thread nD τ).loc main_arg1))
        (m ((c.tc : Thread nD τ).loc main_arg2))))) := rfl

/-- No key is too far from a query: the mask lets every pair through. -/
theorem near_at (i j : Fin 128) : near (ix2 i j) = 1#1 := by
  pointwise [near]
  revert i j
  decide +kernel

theorem anyNear_at (i : Fin 128) : anyNear (ix1 i) = 1#1 := by
  pointwise [anyNear, near_at]
  rw [Finset.fold_const _ (by decide)]
  decide

variable {x wq k v wo}

/-- The scores are those of the problem, where the arrays they come from are real. -/
theorem scores_at {xr : Fin 16 → Fin 128 → Fin 512 → ℝ} {wr : Fin 512 → Fin 2048 → ℝ} {kr : Fin 16 → Fin 128 → Fin 32 → Fin 64 → ℝ}
    (hx : ∀ b i d, x (ix3 b i d) = xr b i d) (hw : ∀ d t, wq (ix2 d t) = wr d t) (hk : ∀ b j h e, k (ix4 b j h e) = kr b j h e)
    (b : Fin 16) (h : Fin 32) (i j : Fin 128) : scores x wq k (ix4 b h i j) = score xr wr kr b h i j := by
  pointwise [scores, near_at]
  simp only [hx, hw, hk, ofBits_eighth, ← EReal.coe_mul, coe_sum]
  rfl

theorem lowered_at (s : FVec Ideal S16x32x128x128 .f32) (b : Fin 16) (h : Fin 32) (i j : Fin 128) :
    lowered s (ix4 b h i j) = Ideal.exp (s (ix4 b h i j) - Finset.univ.fold max ⊥ fun j => s (ix4 b h i j)) := by
  pointwise [lowered, ofBits_neg_inf]

theorem probs_at (p : FVec Ideal S16x32x128x128 .f32) (b : Fin 16) (h : Fin 32) (i j : Fin 128) :
    probs p (ix4 b h i j) = Ideal.div (p (ix4 b h i j)) (∑ j, p (ix4 b h i j)) := by
  pointwise [probs, anyNear_at]

theorem outOf_at (w : FVec Ideal S16x32x128x128 .f32) (b : Fin 16) (i : Fin 128) (o : Fin 512) :
    outOf v wo w (ix3 b i o) = ∑ t, (∑ j, v (ix4 b j (hd t) (el t)) * w (ix4 b (hd t) i j)) * wo (ix2 t o) := by
  pointwise [outOf]
  rfl

/-- The reference's result is the problem's, where x, Wq and K are real. -/
theorem out_at {xr : Fin 16 → Fin 128 → Fin 512 → ℝ} {wr : Fin 512 → Fin 2048 → ℝ} {kr : Fin 16 → Fin 128 → Fin 32 → Fin 64 → ℝ}
    (hx : ∀ b i d, x (ix3 b i d) = xr b i d) (hw : ∀ d t, wq (ix2 d t) = wr d t) (hk : ∀ b j h e, k (ix4 b j h e) = kr b j h e)
    (b : Fin 16) (i : Fin 128) (o : Fin 512) :
    outOf v wo (probs (lowered (scores x wq k))) (ix3 b i o)
      = result xr wr kr (fun b j h e => v (ix4 b j h e)) (fun t o => wo (ix2 t o)) b i o := by
  rw [outOf_at]
  refine Finset.sum_congr rfl fun t _ => congrArg (· * _) ?_
  obtain ⟨M, hM⟩ := max_real (by decide) (score xr wr kr b (hd t) i)
  simp only [probs_at, lowered_at, scores_at hx hw hk, hM]
  exact softmax_eq (by decide) _ M _

end Cert.Proof.Ref
-- ==== Proof.KVal.lean ====
/-
  What the kernel computes, at an index: the terms of one group of four heads.
-/
module

public import proofs.«01_k».proof.Proof.Out
public import proofs.«01_k».proof.Proof.Soft
public import Idealize.ShloMosaic.Lib.Pointwise

@[expose] public section

noncomputable section

namespace Cert.Proof

open Cert.KernelIdeal Cert.KernelIdeal.Gen
open Idealize.ShloMosaic

theorem queries_at (xb : FVec Ideal S256x512 .bf16) (wq : FVec Ideal S512x256 .bf16) (r t : Fin 256) :
    queries xb wq (ix2 r t) = (∑ d, xb (ix2 r d) * wq (ix2 d t)) * ((1 / 8 : ℝ) : EReal) := by
  pointwise [queries, ofBits_eighth]

theorem weights_at (M : FVec Ideal S256x256 .f32) (q k : FVec Ideal S256x64 .bf16) (r r' : Fin 256) :
    weights M q k (ix2 r r') = Ideal.exp (∑ e, q (ix2 r e) * k (ix2 r' e)) * M (ix2 r r') := by
  pointwise [weights]

theorem head_at (M : FVec Ideal S256x256 .f32) (q k v : FVec Ideal S256x64 .bf16) (r : Fin 256) (e : Fin 64) :
    head M q k v (ix2 r e) = Ideal.div (∑ r', weights M q k (ix2 r r') * v (ix2 r' e)) (∑ r', weights M q k (ix2 r r')) := by
  pointwise [head]

/-- Column e of the head that column t of a group belongs to. -/
def gcol (t : Fin 256) (e : Fin 64) : Fin 256 := ⟨t.val / 64 * 64 + e.val, by omega⟩

/-- The weight of row r' for row r, in the head that column t of the group belongs to. -/
def weight (M : FVec Ideal S256x256 .f32) (q k : FVec Ideal S256x256 .bf16) (t r r' : Fin 256) : EReal :=
  Ideal.exp (∑ e, q (ix2 r (gcol t e)) * k (ix2 r' (gcol t e))) * M (ix2 r r')

/-- One head of a group, cut from the group's queries, keys and values at column off. -/
theorem head_cut (M : FVec Ideal S256x256 .f32) (q k v : FVec Ideal S256x256 .bf16) (off : ℕ) (h : S256x256.Slices ![0, off] S256x64)
    (r t : Fin 256) (e : Fin 64) (he : t.val = off + e.val) (hoff : t.val / 64 * 64 = off) :
    head M (extractStridedSlice S256x64 ![0, off] q h) (extractStridedSlice S256x64 ![0, off] k h)
        (extractStridedSlice S256x64 ![0, off] v h) (ix2 r e)
      = Ideal.div (∑ r', weight M q k t r r' * v (ix2 r' t)) (∑ r', weight M q k t r r') := by
  subst hoff
  pointwise [head_at, weights_at, weight]
  exact congrArg (Ideal.div · _) (Finset.sum_congr rfl fun r' _ => congrArg (fun t => weight M q k _ r r' * v (ix2 r' t)) (Fin.ext he.symm))

theorem heads_at (M : FVec Ideal S256x256 .f32) (q k v : FVec Ideal S256x256 .bf16) (r t : Fin 256) :
    heads M q k v (ix2 r t) = Ideal.div (∑ r', weight M q k t r r' * v (ix2 r' t)) (∑ r', weight M q k t r r') := by
  have ht := t.isLt
  pointwise [heads]
  split
  · exact head_cut M q k v 0 _ r t _ (by simp) (by omega)
  split
  · exact head_cut M q k v 64 _ r t _ (by simp; omega) (by omega)
  split
  · exact head_cut M q k v 128 _ r t _ (by simp; omega) (by omega)
  · exact head_cut M q k v 192 _ r t _ (by simp; omega) (by omega)

theorem grp_at (M : FVec Ideal S256x256 .f32) (xb : FVec Ideal S256x512 .bf16) (acc : FVec Ideal S256x512 .f32)
    (wq : Vec Ideal S512x256 .bf16) (wo : Vec Ideal S256x512 .bf16) (k v : Vec Ideal S256x256 .bf16) (r : Fin 256) (o : Fin 512) :
    grp M xb acc (up wq) (up wo) (up k) (up v) (ix2 r o) = acc (ix2 r o) + ∑ t, heads M (queries xb wq) k v (ix2 r t) * wo (ix2 t o) := by
  have hup : ∀ {e : EltTy} {a b : ℕ} (w : (⟨2, ![a, b]⟩ : Shape).Idx → Elt Ideal e) (h), shapeCast ⟨2, ![a, b]⟩ (up w) h = w := fun w h => by
    funext i
    exact cast_back w _ _ i
  unfold grp
  simp only [hup]
  pointwise

/-- The batch entry of a row, as the kernel computes it: the row's number divided by 128, rounded down. -/
def entry (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 128#32 0#32)) (Scalar.extui (Scalar.cmpi .slt 128#32 0#32))))
      (IntOp.cmpi .ne (IntOp.remsi .vector w 128#32) 0#32))
    (IntOp.subi (IntOp.divsi .vector w 128#32) 1#32) (IntOp.divsi .vector w 128#32)

theorem entry_eq : ∀ r : Fin 256, entry (BitVec.ofNat 32 r.val) = BitVec.ofNat 32 (r.val / 128) := by decide +kernel

/-- The mask is one within a batch entry's rows and zero between two entries' rows. -/
theorem maskV_at (r r' : Fin 256) : maskV (F := Ideal) (ix2 r r') = if r.val / 128 = r'.val / 128 then 1 else 0 := by
  pointwise [k0_pay9, k0_pay8]
  change FloatOps.sitofp .f32 (BitVec.setWidth 32 (IntOp.cmpi .eq (entry (BitVec.ofNat 32 r.val)) (entry (BitVec.ofNat 32 r'.val)))) = _
  rw [entry_eq, entry_eq]
  have hr : r.val / 128 < 2 := by omega
  have hr' : r'.val / 128 < 2 := by omega
  generalize r.val / 128 = a at hr ⊢
  generalize r'.val / 128 = b at hr' ⊢
  have h : ∀ w : BitVec 32, (FloatOps.sitofp .f32 w : Ideal .f32) = ((w.toInt : ℝ) : EReal) := fun w => rfl
  rw [h]
  interval_cases a <;> interval_cases b <;> simp [IntOp.cmpi]

theorem x_at (x : Vec Ideal S2x128x512 .f32) (r : Fin 256) (d : Fin 512) :
    k0_pay7 x (ix2 r d) = x (ix3 ⟨r.val / 128, by omega⟩ ⟨r.val % 128, by omega⟩ d) := by
  pointwise [k0_pay7]

theorem kvs11_at (k : Vec Ideal S256x2048 .bf16) (d : Fin 8) (r t : Fin 256) :
    kvs (k0_pay11 k) d (ix2 r t) = k (ix2 r ⟨256 * d.val + t.val, by omega⟩) := by
  pointwise [kvs, k0_pay11]

theorem kvs12_at (k : Vec Ideal S256x2048 .bf16) (d : Fin 8) (r t : Fin 256) :
    kvs (k0_pay12 k) d (ix2 r t) = k (ix2 r ⟨256 * d.val + t.val, by omega⟩) := by
  pointwise [kvs, k0_pay12]

end Cert.Proof
-- ==== Proof.Value.lean ====
/-
  The kernel's result is the attention of the problem: each group of heads that a device adds up is the part of the
  sum that belongs to one slice of the weights, and the eight groups are all of it.
-/
module

public import proofs.«01_k».proof.Proof.KVal

@[expose] public section

noncomputable section

namespace Cert.Proof

open Cert.KernelIdeal Cert.KernelIdeal.Gen
open Idealize.ShloMosaic

/-- The batch entry and the place of row r of device c, and column t of device d's slice of the weights. -/
def ent (c : Dev nD) (r : Fin 256) : Fin 16 := ⟨2 * c.val + r.val / 128, by have h : c.val < 8 := c.isLt; omega⟩
def pl (r : Fin 256) : Fin 128 := ⟨r.val % 128, by omega⟩
def gl (d : Dev nD) (t : Fin 256) : Fin 2048 := ⟨256 * d.val + t.val, by have h : d.val < 8 := d.isLt; omega⟩

theorem gl_gcol (d : Dev nD) (t : Fin 256) (e : Fin 64) : gl d (gcol t e) = col (hd (gl d t)) e :=
  Fin.ext (by simp only [gl, gcol, col, hd]; omega)
theorem hd_col (h : Fin 32) (e : Fin 64) : hd (col h e) = h := Fin.ext (by simp only [col, hd]; omega)
theorem el_col (h : Fin 32) (e : Fin 64) : el (col h e) = e := Fin.ext (by simp only [col, el]; omega)

/-- Row j of the batch entry of row r. -/
def mate (r : Fin 256) (j : Fin 128) : Fin 256 := ⟨r.val / 128 * 128 + j.val, by omega⟩

theorem ent_mate (c : Dev nD) (r : Fin 256) (j : Fin 128) : ent c (mate r j) = ent c r :=
  Fin.ext (by simp only [ent, mate]; omega)
theorem pl_mate (r : Fin 256) (j : Fin 128) : pl (mate r j) = j := Fin.ext (by simp only [pl, mate]; omega)

/-- A sum over all rows whose terms vanish outside the batch entry of row r. -/
theorem sum_mates (f : Fin 256 → EReal) (r : Fin 256) (h : ∀ r' : Fin 256, r.val / 128 ≠ r'.val / 128 → f r' = 0) :
    ∑ r', f r' = ∑ j, f (mate r j) := by
  rw [Fin.sum_univ_tiles 2 128 rfl, Finset.sum_eq_single (⟨r.val / 128, by omega⟩ : Fin 2)]
  · rfl
  · intro a _ ha
    refine Finset.sum_eq_zero fun j _ => h _ fun e => ha (Fin.ext ?_)
    simp only at e ⊢
    omega
  · exact fun h => absurd (Finset.mem_univ _) h

/-- What the devices' arrays hold, in terms of the arrays of the problem. -/
structure Holds (I : Ins Ideal) (x : Fin 16 → Fin 128 → Fin 512 → ℝ) (w : Fin 512 → Fin 2048 → ℝ)
    (k : Fin 16 → Fin 128 → Fin 32 → Fin 64 → ℝ) (v : Fin 16 → Fin 128 → Fin 32 → Fin 64 → EReal)
    (wo : Fin 2048 → Fin 512 → EReal) : Prop where
  x : ∀ c r d, k0_pay7 (I.x c) (ix2 r d) = ((x (ent c r) (pl r) d : ℝ) : EReal)
  wq : ∀ d a t, wqb I d (ix2 a t) = ((w a (gl d t) : ℝ) : EReal)
  k : ∀ c d r t, kvs (k0_pay11 (I.k c)) d (ix2 r t) = ((k (ent c r) (pl r) (hd (gl d t)) (el (gl d t)) : ℝ) : EReal)
  v : ∀ c d r t, kvs (k0_pay12 (I.v c)) d (ix2 r t) = v (ent c r) (pl r) (hd (gl d t)) (el (gl d t))
  wo : ∀ d t o, wob I d (ix2 t o) = wo (gl d t) o

section

variable {I : Ins Ideal} {x : Fin 16 → Fin 128 → Fin 512 → ℝ} {w : Fin 512 → Fin 2048 → ℝ}
  {k : Fin 16 → Fin 128 → Fin 32 → Fin 64 → ℝ} {v : Fin 16 → Fin 128 → Fin 32 → Fin 64 → EReal}
  {wo : Fin 2048 → Fin 512 → EReal} (H : Holds I x w k v wo) (c d : Dev nD)
include H

/-- The weight of a row of the same batch entry is the exponential of the score. -/
theorem weight_mate (t r : Fin 256) (j : Fin 128) :
    weight maskV (queries (k0_pay7 (I.x c)) (wqb I d)) (kvs (k0_pay11 (I.k c)) d) t r (mate r j)
      = Ideal.exp (score x w k (ent c r) (hd (gl d t)) (pl r) j : EReal) := by
  have hm : r.val / 128 = (mate r j).val / 128 := by simp only [mate]; omega
  unfold weight
  rw [maskV_at, if_pos hm, mul_one]
  simp only [queries_at, H.x, H.wq, H.k, gl_gcol, hd_col, el_col, ent_mate, pl_mate, ← EReal.coe_mul, coe_sum]
  refine congrArg (fun s : ℝ => Ideal.exp (s : EReal)) ?_
  unfold score query
  rw [Finset.sum_mul]
  exact Finset.sum_congr rfl fun e _ => by ring

omit H in
theorem weight_other (q k : FVec Ideal S256x256 .bf16) (t r r' : Fin 256) (h : r.val / 128 ≠ r'.val / 128) :
    weight maskV q k t r r' = 0 := by
  unfold weight
  rw [maskV_at, if_neg h, mul_zero]

/-- The heads of one group, at a row and a column, are the heads of the problem. -/
theorem heads_val (r t : Fin 256) :
    heads maskV (queries (k0_pay7 (I.x c)) (wqb I d)) (kvs (k0_pay11 (I.k c)) d) (kvs (k0_pay12 (I.v c)) d) (ix2 r t)
      = context x w k v (ent c r) (pl r) (gl d t) := by
  rw [heads_at, sum_mates _ r fun r' h => by rw [weight_other _ _ t r r' h, zero_mul],
    sum_mates _ r fun r' h => weight_other _ _ t r r' h]
  simp only [weight_mate H, H.v, ent_mate, pl_mate]
  rfl

/-- What one group adds. -/
theorem grpOf_at (acc : FVec Ideal S256x512 .f32) (r : Fin 256) (o : Fin 512) :
    grpOf I c d acc (ix2 r o) = acc (ix2 r o) + ∑ t, context x w k v (ent c r) (pl r) (gl d t) * wo (gl d t) o := by
  unfold grpOf
  rw [grp_at]
  simp only [heads_val H, H.wo]

/-- The devices whose slices reach device c, in the order of its groups. -/
def slices (c : Dev nD) : Fin 8 → Dev nD := ![c, bk c 1, fw c 1, bk c 2, fw c 2, bk c 3, fw c 3, fw c 4]
omit H in
theorem slices_bij (c : Dev nD) : Function.Bijective (slices c) :=
  Finite.injective_iff_bijective.mp (by revert c; decide +kernel)

/-- The kernel's result on device c. -/
theorem outV_at (b : Fin 2) (i : Fin 128) (o : Fin 512) :
    outV I c (ix3 b i o) = result x w k v wo ⟨2 * c.val + b.val, by have h : c.val < 8 := c.isLt; omega⟩ i o := by
  have hr : (⟨b.val * 128 + i.val, by omega⟩ : Fin 256).val / 128 = b.val := by simp only; omega
  have he : ent c ⟨b.val * 128 + i.val, by omega⟩ = ⟨2 * c.val + b.val, by have h : c.val < 8 := c.isLt; omega⟩ :=
    Fin.ext (congrArg (2 * c.val + ·) hr)
  have hp : pl ⟨b.val * 128 + i.val, by omega⟩ = i := Fin.ext (by simp only [pl]; omega)
  have h0 : ∀ j, (k0_pay10 : FVec Ideal S256x512 .f32) j = 0 := fun j => by pointwise [k0_pay10]
  unfold outV
  pointwise
  simp only [grpOf_at H, h0, zero_add, he, hp]
  unfold result
  rw [Fin.sum_univ_tiles 8 256 rfl, ← (slices_bij c).sum_comp, Fin.sum_univ_eight]
  have hgl : ∀ (d : Dev nD) (t : Fin 256), gl d t = ⟨d.val * 256 + t.val, by have h : d.val < 8 := d.isLt; omega⟩ :=
    fun d t => Fin.ext (by simp only [gl]; omega)
  simp only [hgl]
  rfl

end

end Cert.Proof
-- ==== Proof.HVal.lean ====
/-
  What the host part of a device leaves for its kernel: the keys and the values of the two batch entries it serves.
-/
module

public import proofs.«01_k».proof.Proof.Gen.KernelIdeal.Regions
public import Idealize.ShloMosaic.Lib.StableHlo.RunClose
public import Idealize.ShloMosaic.Lib.Tactic.CleanTypes
public import Idealize.ShloMosaic.Lib.Pointwise

@[expose] public section

noncomputable section

namespace Cert.Proof

open Cert.KernelIdeal Cert.KernelIdeal.Gen
open Idealize.ShloMosaic Idealize.ShloMosaic.TcCoe

/-- The first batch entry that device c serves, as the host part computes it. -/
def firstEntry (c : Dev nD) : IVec S_ 32 :=
  muli (id (Host.remui (Host.divui (constantI S_ 32 (Dev.word c)) (constantI S_ 32 1#32)) (constantI S_ 32 8#32))) (constantI S_ 32 2#32)

/-- Where the host part cuts the keys and the values, along each axis. -/
def cutWords (c : Dev nD) : Fin 4 → IVec S_ 32 :=
  ![select (cmpi .slt (firstEntry c) (constantI S_ 32 0#32)) (addi (firstEntry c) (constantI S_ 32 16#32)) (firstEntry c),
    constantI S_ 32 0#32, constantI S_ 32 0#32, constantI S_ 32 0#32]

theorem cutWords_first (c : Dev nD) : (cutWords c 0 (Shape.Idx.first h_S_)).toInt = ((2 * c.val : ℕ) : ℤ) := by revert c; decide +kernel
theorem cutWords_rest (c : Dev nD) (k : Fin 4) (hk : k ≠ 0) : (cutWords c k (Shape.Idx.first h_S_)).toInt = ((0 : ℕ) : ℤ) := by
  fin_cases k
  · exact absurd rfl hk
  all_goals rfl

/-- Row r of a device's two batch entries: the place r % 128 of the entry 2 c + r / 128. -/
theorem cut_at (c : Dev nD) (x : FVec Ideal S16x128x32x64 .f32) (r : Fin 256) (t : Fin 2048) :
    truncf .bf16 (shapeCast S256x2048 (Host.dynamicSlice S2x128x32x64 x (fun k => (cutWords c k (Shape.Idx.first h_S_)).toInt)
        sliceFits_S16x128x32x64_S2x128x32x64) shapeCasts_S2x128x32x64_S256x2048) bitsLt_bf16_f32 (ix2 r t)
      = x (ix4 ⟨2 * c.val + r.val / 128, by have h : c.val < 8 := c.isLt; omega⟩ ⟨r.val % 128, by omega⟩ ⟨t.val / 64, by omega⟩ ⟨t.val % 64, by omega⟩) := by
  pointwise
  have hc : c.val < 8 := c.isLt
  refine congrArg x (congr (congr (congr (congrArg ix4 (Fin.ext (congrArg (· + r.val / 128) ?_)))
    (Fin.ext ?_)) (Fin.ext ?_)) (Fin.ext ?_))
  · exact Host.clampedStart_of_le _ _ _ _ (cutWords_first c) (by change 2 * c.val + 2 ≤ 16; omega)
  all_goals refine (congrArg (· + _) (Host.clampedStart_of_le _ _ _ _ (cutWords_rest c _ (by decide)) (by decide))).trans (Nat.zero_add _)

variable (m : (ℓ : Loc nD τ sig) → Buf (Elt Ideal) ℓ) (c : Dev nD)

theorem V1_k (r : Fin 256) (t : Fin 2048) :
    V1 m c (Proc.devRef .tc main_v15) (ix2 r t) = m ((c.tc : Thread nD τ).loc main_arg2)
      (ix4 ⟨2 * c.val + r.val / 128, by have h : c.val < 8 := c.isLt; omega⟩ ⟨r.val % 128, by omega⟩ ⟨t.val / 64, by omega⟩ ⟨t.val % 64, by omega⟩) := by
  unfold V1 hostOps0
  after_results_simp_entrywise
  exact cut_at c _ r t

theorem V1_v (r : Fin 256) (t : Fin 2048) :
    V1 m c (Proc.devRef .tc main_v17) (ix2 r t) = m ((c.tc : Thread nD τ).loc main_arg3)
      (ix4 ⟨2 * c.val + r.val / 128, by have h : c.val < 8 := c.isLt; omega⟩ ⟨r.val % 128, by omega⟩ ⟨t.val / 64, by omega⟩ ⟨t.val % 64, by omega⟩) := by
  unfold V1 hostOps0
  after_results_simp_entrywise
  exact cut_at c _ r t

end Cert.Proof
-- ==== Proof.Inputs.lean ====
/-
  The arrays the devices start with: each is its part of the whole arrays, and under the precondition the inputs of the
  scores are real numbers.
-/
module

public import proofs.«01_k».proof.Defs
public import proofs.«01_k».proof.Proof.Value
public import proofs.«01_k».proof.Proof.HVal
public import proofs.«01_k».proof.Proof.Region

@[expose] public section

noncomputable section

namespace Cert.Proof

open Cert.KernelIdeal Cert.KernelIdeal.Gen
open Idealize.ShloMosaic

/-- A number whose absolute value is below infinity is real. -/
theorem real_of_lt (a : EReal) (h : Ideal.cmp .olt (max a (-a)) (Ideal.ofBits .f32 0x7F800000#32) = 1#1) :
    ((a.toReal : ℝ) : EReal) = a := by
  rw [ofBits_inf] at h
  have h' : max a (-a) < ⊤ := by
    by_contra hn
    rw [Ideal.cmp_olt, decide_eq_false hn] at h
    exact absurd h (by decide)
  refine EReal.coe_toReal (fun e => ?_) fun e => ?_
  · exact absurd (e ▸ le_max_left a (-a)) (not_le.mpr h')
  · have hn : -a = ⊤ := by rw [e, EReal.neg_bot]
    exact absurd (hn ▸ le_max_right a (-a)) (not_le.mpr h')

theorem preFacts : Cert.Pre_scores_finite_KernelIdeal.Facts where
  bcast_S_S2x128x512 := by decide
  bcast_S_S512x256 := by decide
  bcast_S_S16x128x32x64 := by decide

theorem preFacts_ref : Cert.Pre_scores_finite_ReferenceIdeal.Facts where
  bcast_S_S16x128x512 := by decide
  bcast_S_S512x2048 := by decide
  bcast_S_S16x128x32x64 := by decide

attribute [local instance] preFacts

section

variable {m : (ℓ : Loc nD τ sig) → Buf (Elt Ideal) ℓ} (hp : Cert.Pre_KernelIdeal_scores_finite_KernelIdeal m) (c : Dev nD)
include hp

theorem x_real (j : S2x128x512.Idx) :
    (((m ((c.tc : Thread nD τ).loc main_arg0) j).toReal : ℝ) : EReal) = m ((c.tc : Thread nD τ).loc main_arg0) j :=
  real_of_lt _ (congrFun (hp c).1 j)

theorem wq_real (j : S512x256.Idx) :
    (((m ((c.tc : Thread nD τ).loc main_arg1) j).toReal : ℝ) : EReal) = m ((c.tc : Thread nD τ).loc main_arg1) j :=
  real_of_lt _ (congrFun (hp c).2.1 j)

theorem k_real (j : S16x128x32x64.Idx) :
    (((m ((c.tc : Thread nD τ).loc main_arg2) j).toReal : ℝ) : EReal) = m ((c.tc : Thread nD τ).loc main_arg2) j :=
  real_of_lt _ (congrFun (hp c).2.2 j)

end

/-- Row (b, i) of device c's block of x is row (2 c + b, i) of the whole. -/
theorem block_x (X : FVec Ideal ⟨3, ![16, 128, 512]⟩ .f32) (c : Fin 8) (b : Fin 2) (i : Fin 128) (d : Fin 512) :
    (Layout.block ⟨3, ![2, 128, 512]⟩ ⟨3, ![16, 128, 512]⟩ 0 8 c X) (ix3 b i d) = X (ix3 ⟨2 * c.val + b.val, by omega⟩ i d) := by
  rw [Layout.block_apply]
  refine congrArg X (funext fun a => Fin.ext ?_)
  rw [Layout.Tiles.idx_val]
  fin_cases a
  · exact congrArg (· + b.val) (Nat.mul_comm c.val 2)
  all_goals rfl

/-- Column t of device c's block of Wq is column 256 c + t of the whole. -/
theorem block_wq (W : FVec Ideal ⟨2, ![512, 2048]⟩ .f32) (c : Fin 8) (a : Fin 512) (t : Fin 256) :
    (Layout.block ⟨2, ![512, 256]⟩ ⟨2, ![512, 2048]⟩ 1 8 c W) (ix2 a t) = W (ix2 a (gl c t)) := by
  rw [Layout.block_apply]
  refine congrArg W (funext fun a => Fin.ext ?_)
  rw [Layout.Tiles.idx_val]
  fin_cases a
  · rfl
  · exact congrArg (· + t.val) (Nat.mul_comm c.val 256)

/-- Row t of device c's block of Wo is row 256 c + t of the whole. -/
theorem block_wo (W : FVec Ideal ⟨2, ![2048, 512]⟩ .f32) (c : Fin 8) (t : Fin 256) (o : Fin 512) :
    (Layout.block ⟨2, ![256, 512]⟩ ⟨2, ![2048, 512]⟩ 0 8 c W) (ix2 t o) = W (ix2 (gl c t) o) := by
  rw [Layout.block_apply]
  refine congrArg W (funext fun a => Fin.ext ?_)
  rw [Layout.Tiles.idx_val]
  fin_cases a
  · exact congrArg (· + t.val) (Nat.mul_comm c.val 256)
  · rfl

section

variable {m : (ℓ : Loc nD τ sig) → Buf (Elt Ideal) ℓ}
  {X : FVec Ideal ⟨3, ![16, 128, 512]⟩ .f32} {W : FVec Ideal ⟨2, ![512, 2048]⟩ .f32} {K V : FVec Ideal ⟨4, ![16, 128, 32, 64]⟩ .f32}
  {O : FVec Ideal ⟨2, ![2048, 512]⟩ .f32}

/-- What the devices' arrays hold once the host part has run. -/
theorem holds_of (hx : ∀ c : Dev nD, m ((c.tc : Thread nD τ).loc main_arg0) = Layout.block ⟨3, ![2, 128, 512]⟩ ⟨3, ![16, 128, 512]⟩ 0 8 c X)
    (hw : ∀ c : Dev nD, m ((c.tc : Thread nD τ).loc main_arg1) = Layout.block ⟨2, ![512, 256]⟩ ⟨2, ![512, 2048]⟩ 1 8 c W)
    (hk : ∀ c : Dev nD, m ((c.tc : Thread nD τ).loc main_arg2) = K)
    (hv : ∀ c : Dev nD, m ((c.tc : Thread nD τ).loc main_arg3) = V)
    (ho : ∀ c : Dev nD, m ((c.tc : Thread nD τ).loc main_arg4) = Layout.block ⟨2, ![256, 512]⟩ ⟨2, ![2048, 512]⟩ 0 8 c O)
    {x w k} (xr : ∀ b i d, X (ix3 b i d) = ((x b i d : ℝ) : EReal)) (wr : ∀ a t, W (ix2 a t) = ((w a t : ℝ) : EReal))
    (kr : ∀ b j h e, K (ix4 b j h e) = ((k b j h e : ℝ) : EReal)) :
    Holds (insOf (V1 m)) x w k (fun b j h e => V (ix4 b j h e)) (fun t o => O (ix2 t o)) where
  x c r d := by
    rw [x_at, ← xr]
    exact (congrFun (V1_of m c main_arg0 (by decide)) _).trans ((congrFun (hx c) _).trans (block_x X c _ _ d))
  wq d a t := by
    rw [← wr]
    refine Eq.trans ?_ ((congrFun (V1_of m d main_arg1 (by decide)) (ix2 a t)).trans ((congrFun (hw d) _).trans (block_wq W d a t)))
    pointwise [wqb, k0_pay1]
    rfl
  k c d r t := by
    rw [kvs11_at, ← kr]
    exact (V1_k m c r _).trans (congrFun (hk c) _)
  v c d r t := by
    rw [kvs12_at]
    exact (V1_v m c r _).trans (congrFun (hv c) _)
  wo d t o := by
    refine Eq.trans ?_ ((congrFun (V1_of m d main_arg4 (by decide)) (ix2 t o)).trans ((congrFun (ho d) _).trans (block_wo O d t o)))
    pointwise [wob, k0_pay2]
    rfl

section

variable (hp : Cert.Pre_KernelIdeal_scores_finite_KernelIdeal m)
include hp

/-- Under the precondition the whole x is real. -/
theorem X_real (hx : ∀ c : Dev nD, m ((c.tc : Thread nD τ).loc main_arg0) = Layout.block ⟨3, ![2, 128, 512]⟩ ⟨3, ![16, 128, 512]⟩ 0 8 c X)
    (b : Fin 16) (i : Fin 128) (d : Fin 512) : X (ix3 b i d) = (((X (ix3 b i d)).toReal : ℝ) : EReal) := by
  have h := x_real hp (⟨b.val / 2, by omega⟩ : Fin 8) (ix3 ⟨b.val % 2, by omega⟩ i d)
  rw [hx] at h
  simp only [block_x] at h
  rw [show (⟨2 * (b.val / 2) + b.val % 2, by omega⟩ : Fin 16) = b from Fin.ext (Nat.div_add_mod b.val 2)] at h
  exact h.symm

/-- Under the precondition the whole Wq is real. -/
theorem W_real (hw : ∀ c : Dev nD, m ((c.tc : Thread nD τ).loc main_arg1) = Layout.block ⟨2, ![512, 256]⟩ ⟨2, ![512, 2048]⟩ 1 8 c W)
    (a : Fin 512) (t : Fin 2048) : W (ix2 a t) = (((W (ix2 a t)).toReal : ℝ) : EReal) := by
  have h := wq_real hp (⟨t.val / 256, by omega⟩ : Fin 8) (ix2 a ⟨t.val % 256, by omega⟩)
  rw [hw] at h
  simp only [block_wq] at h
  rw [show gl (⟨t.val / 256, by omega⟩ : Fin 8) ⟨t.val % 256, by omega⟩ = t from Fin.ext (Nat.div_add_mod t.val 256)] at h
  exact h.symm

/-- Under the precondition the keys are real. -/
theorem K_real (hk : ∀ c : Dev nD, m ((c.tc : Thread nD τ).loc main_arg2) = K) (j : S16x128x32x64.Idx) :
    K j = (((K j).toReal : ℝ) : EReal) := by
  have h := k_real hp 0 j
  rw [hk] at h
  exact h.symm

end

end

end Cert.Proof
-- ==== Proof.lean ====
/-
  The claims: the three frames, that the idealized kernel is the kernel's own text, and that over the extended reals
  each device ends with its block of the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.RVal
public import proofs.«01_k».proof.Proof.Inputs
public import Idealize.ShloMosaic.Adequacy
public import Idealize.ShloMosaic.Init
public import Idealize.ShloMosaic.Lib.Quiescent

@[expose] public section

noncomputable section

namespace Cert.Proof

open Idealize.ShloMosaic Idealize.SL.Sem

/-- Over any float values, the kernel's text runs to the end on all eight devices, keeps its arguments, and leaves every
    counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩) (run_main m ρ)

set_option maxRecDepth 8192 in
/-- The kernel and its idealization have one body table: their texts are the same. -/
theorem bodies_same : Cert.Kernel.defs₀ (F := Bits) = Cert.KernelIdeal.defs₀ (F := Bits) := by
  unfold Cert.Kernel.defs₀ Cert.KernelIdeal.defs₀
  refine congrArg Defs.onTc ?_
  funext i x
  match i with
  | 0 => rfl

/-- The two body tables with the pipeline's entries are the same. -/
theorem defs_same : Cert.Kernel.defs (F := Bits) = Cert.KernelIdeal.defs (F := Bits) :=
  congrArg (Pipeline.defs (Cert.KernelIdeal.pcfgs (F := Bits))) bodies_same

/-- The kernel's frame. -/
theorem frame_kernel : Cert.quiescent_Kernel := fun m ρ _ => by
  rw [defs_same]
  exact frame_any (F := Bits) m ρ

/-- Its idealization's frame. -/
theorem frame_kernelIdeal : Cert.quiescent_KernelIdeal := fun m ρ _ => frame_any (F := Ideal) m ρ

/-- The reference's frame; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

attribute [local instance] preFacts

/-- If every device's arrays are its parts of the reference's, and the inputs of the scores are finite, then the kernel's
    result on device c is block c of the reference's. -/
theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (r : Dev Cert.ReferenceIdeal.nD) (hp : Cert.Pre_KernelIdeal_scores_finite_KernelIdeal m)
    (hx : ∀ c : Dev Cert.KernelIdeal.nD, m ((c.tc : Thread Cert.KernelIdeal.nD Cert.KernelIdeal.τ).loc Cert.KernelIdeal.main_arg0)
      = Layout.block ⟨3, ![2, 128, 512]⟩ ⟨3, ![16, 128, 512]⟩ 0 8 c (m' ((r.tc : Thread Cert.ReferenceIdeal.nD Cert.ReferenceIdeal.τ).loc Cert.ReferenceIdeal.main_arg0)))
    (hw : ∀ c : Dev Cert.KernelIdeal.nD, m ((c.tc : Thread Cert.KernelIdeal.nD Cert.KernelIdeal.τ).loc Cert.KernelIdeal.main_arg1)
      = Layout.block ⟨2, ![512, 256]⟩ ⟨2, ![512, 2048]⟩ 1 8 c (m' ((r.tc : Thread Cert.ReferenceIdeal.nD Cert.ReferenceIdeal.τ).loc Cert.ReferenceIdeal.main_arg1)))
    (hk : ∀ c : Dev Cert.KernelIdeal.nD, m ((c.tc : Thread Cert.KernelIdeal.nD Cert.KernelIdeal.τ).loc Cert.KernelIdeal.main_arg2)
      = m' ((r.tc : Thread Cert.ReferenceIdeal.nD Cert.ReferenceIdeal.τ).loc Cert.ReferenceIdeal.main_arg2))
    (hv : ∀ c : Dev Cert.KernelIdeal.nD, m ((c.tc : Thread Cert.KernelIdeal.nD Cert.KernelIdeal.τ).loc Cert.KernelIdeal.main_arg3)
      = m' ((r.tc : Thread Cert.ReferenceIdeal.nD Cert.ReferenceIdeal.τ).loc Cert.ReferenceIdeal.main_arg3))
    (ho : ∀ c : Dev Cert.KernelIdeal.nD, m ((c.tc : Thread Cert.KernelIdeal.nD Cert.KernelIdeal.τ).loc Cert.KernelIdeal.main_arg4)
      = Layout.block ⟨2, ![256, 512]⟩ ⟨2, ![2048, 512]⟩ 0 8 c (m' ((r.tc : Thread Cert.ReferenceIdeal.nD Cert.ReferenceIdeal.τ).loc Cert.ReferenceIdeal.main_arg4)))
    (c : Dev Cert.KernelIdeal.nD) :
    outV (insOf (Cert.KernelIdeal.Gen.V1 m)) c = Layout.block ⟨3, ![2, 128, 512]⟩ ⟨3, ![16, 128, 512]⟩ 0 8 c (Cert.ReferenceIdeal.Value.res_main_v42 m' r) := by
  have xr := X_real hp hx
  have wr := W_real hp hw
  have kr := fun b j h e => K_real hp hk (ix4 b j h e)
  funext j
  idx_vars j
  rw [outV_at (holds_of hx hw hk hv ho xr wr kr)]
  refine Eq.trans ?_ (block_x _ c _ _ _).symm
  rw [Ref.res_eq]
  exact (Ref.out_at xr wr kr _ _ _).symm

/-- Over the extended reals, kernel and reference compute the same function. -/
theorem same_value : Cert.algebraic_KernelIdeal_ReferenceIdeal_pre_scores_finite_KernelIdeal := fun m g m' g' hp h =>
  ⟨Cert.ReferenceIdeal.Value.res_main_v42 m' 0,
    (θ_run Cert.KernelIdeal.defs _ _).mono (fun r hr c =>
      ⟨(hr.1 c).1.trans (value_eq m m' 0 hp (fun c => (h c).1) (fun c => (h c).2.1) (fun c => (h c).2.2.1)
        (fun c => (h c).2.2.2.1) (fun c => (h c).2.2.2.2) c), (hr.1 c).2⟩)
      (run_main (F := Ideal) m g),
    (θ_run Cert.ReferenceIdeal.defs _ _).mono (fun r hr => hr 0) (Cert.ReferenceIdeal.Value.run (F := Ideal) m' g')⟩

/-- Everything that is claimed. -/
theorem claim : Cert.Claim :=
  ⟨Cert.Kernel.Gen.facts, Cert.KernelIdeal.Gen.facts, Cert.ReferenceIdeal.Gen.facts, preFacts, preFacts_ref,
    frame_kernel, frame_kernelIdeal, fun m ρ _ => frame_any (F := Ideal) m ρ,
    frame_reference, fun m ρ _ => frame_reference m ρ trivial, trivial, same_value⟩

end Cert.Proof

end
